-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_allowed [hPre_all_allowed : Cert.Pre_all_allowed.Facts] (m : (ℓ : Loc Cert.KernelIdeal.nD Cert.KernelIdeal.τ Cert.KernelIdeal.sig) → Buf (Elt Ideal) ℓ) : Prop :=
  ∀ c : Dev Cert.KernelIdeal.nD,
    (Cert.Pre_all_allowed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_allowed [hPre_all_allowed : Cert.Pre_all_allowed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_allowed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_all_allowed [hKernelIdeal : Cert.KernelIdeal.Facts] [hPre_all_allowed : Cert.Pre_all_allowed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_allowed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_all_allowed [hReferenceIdeal : Cert.ReferenceIdeal.Facts] [hPre_all_allowed : Cert.Pre_all_allowed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_allowed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_all_allowed [hKernelIdeal : Cert.KernelIdeal.Facts] [hReferenceIdeal : Cert.ReferenceIdeal.Facts] [hPre_all_allowed : Cert.Pre_all_allowed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_allowed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_all_allowed : Cert.Pre_all_allowed.Facts),
    quiescent_Kernel (hKernel := hKernel)
    ∧ quiescent_KernelIdeal (hKernelIdeal := hKernelIdeal)
    ∧ quiescent_KernelIdeal_pre_all_allowed (hKernelIdeal := hKernelIdeal) (hPre_all_allowed := hPre_all_allowed)
    ∧ quiescent_ReferenceIdeal (hReferenceIdeal := hReferenceIdeal)
    ∧ quiescent_ReferenceIdeal_pre_all_allowed (hReferenceIdeal := hReferenceIdeal) (hPre_all_allowed := hPre_all_allowed)
    ∧ preserves_Kernel_KernelIdeal
    ∧ algebraic_KernelIdeal_ReferenceIdeal_pre_all_allowed (hKernelIdeal := hKernelIdeal) (hReferenceIdeal := hReferenceIdeal) (hPre_all_allowed := hPre_all_allowed)
-- ==== Pre_all_allowed.lean ====
abbrev S128x100000 : Shape := ⟨2, ![128, 100000]⟩
abbrev S_ : Shape := ⟨0, ![]⟩

class Facts : Prop where
  bcast_S_S128x100000 : S_.BroadcastsInDim S128x100000 (![] : Fin 0 → Fin S128x100000.rank)
  reducesTo_S128x100000_S_d0_1 : S128x100000.ReducesTo [0, 1] S_
  h_S_ : 0 < S_.numel

variable [Facts]

def fn {F : FTy → Type} [FloatOps F] (main_arg0 : FVec F S128x100000 .f32) (main_arg1 : FVec F S128x100000 .f32) : IVec S_ 1 :=
  let main_cst : FVec F S_ .f32 := constant S_ .f32 0x3F800000#32
  let main_v0 : FVec F S128x100000 .f32 := broadcastInDim S128x100000 ![] bcast_S_S128x100000 main_cst
  let main_v1 : IVec S128x100000 1 := cmpf .oeq main_arg1 main_v0
  let main_c : IVec S_ 1 := constantI S_ 1 1#1
  let main_v2 : IVec S_ 1 := (fun x v => Host.reduce IntOp.andi x v reducesTo_S128x100000_S_d0_1 h_S_) main_v1 main_c
  main_v2
-- ==== Kernel.lean ====
abbrev S128x100000 : Shape := ⟨2, ![128, 100000]⟩
abbrev S128x1 : Shape := ⟨2, ![128, 1]⟩
abbrev S8x100000 : Shape := ⟨2, ![8, 100000]⟩
abbrev S8x1 : Shape := ⟨2, ![8, 1]⟩
abbrev S8 : Shape := ⟨1, ![8]⟩

abbrev nBuf : Space → Nat
  | .hbm => 4
  | .vmem => 6
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S128x100000, .f32⟩
  | .hbm, ⟨3, _⟩ => ⟨S128x1, .i32⟩
  | .local _ .vmem, ⟨0, _⟩ => ⟨S8x100000, .f32⟩
  | .local _ .vmem, ⟨1, _⟩ => ⟨S8x100000, .f32⟩
  | .local _ .vmem, ⟨2, _⟩ => ⟨S8x100000, .f32⟩
  | .local _ .vmem, ⟨3, _⟩ => ⟨S8x100000, .f32⟩
  | .local _ .vmem, ⟨4, _⟩ => ⟨S8x1, .i32⟩
  | .local _ .vmem, ⟨5, _⟩ => ⟨S8x1, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_1 : Ref sig .tc := ⟨.hbm, 2, rfl⟩
abbrev main_v0_0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S128x100000 : Shape := ⟨2, ![128, 100000]⟩
abbrev S_ : Shape := ⟨0, ![]⟩
abbrev S128 : Shape := ⟨1, ![128]⟩
abbrev S128x1 : Shape := ⟨2, ![128, 1]⟩
abbrev S1 : Shape := ⟨1, ![1]⟩
abbrev S2 : Shape := ⟨1, ![2]⟩
abbrev S1x1 : Shape := ⟨2, ![1, 1]⟩

abbrev nBuf : Space → Nat
  | .hbm => 315
  | .vmem => 0
  | .smem => 0
  | _ => 0

abbrev hbmTy0_0 (i : Nat) : BufTy := match i % 128 with
  | 0 => ⟨S128x100000, .f32⟩
  | 1 => ⟨S128x100000, .f32⟩
  | 2 => ⟨S_, .f32⟩
  | 3 => ⟨S128x100000, .f32⟩
  | 4 => ⟨S128x100000, .f32⟩
  | 5 => ⟨S128x100000, .f32⟩
  | 6 => ⟨S_, .f32⟩
  | 7 => ⟨S128x100000, .f32⟩
  | 8 => ⟨S128x100000, .f32⟩
  | 9 => ⟨S_, .f32⟩
  | 10 => ⟨S128x100000, .f32⟩
  | 11 => ⟨S128x100000, .f32⟩
  | 12 => ⟨S128x100000, .f32⟩
  | 13 => ⟨S_, .f32⟩
  | 14 => ⟨S128, .f32⟩
  | 15 => ⟨S_, .f32⟩
  | 16 => ⟨S128, .f32⟩
  | 17 => ⟨S128, .f32⟩
  | 18 => ⟨S128x1, .f32⟩
  | 19 => ⟨S128x100000, .f32⟩
  | 20 => ⟨S128x100000, .f32⟩
  | 21 => ⟨S128x100000, .f32⟩
  | 22 => ⟨S_, .f32⟩
  | 23 => ⟨S128, .f32⟩
  | 24 => ⟨S128x1, .f32⟩
  | 25 => ⟨S128x100000, .f32⟩
  | 26 => ⟨S128x100000, .f32⟩
  | 27 => ⟨S_, .i32⟩
  | 28 => ⟨S_, .i32⟩
  | 29 => ⟨S_, .i32⟩
  | 30 => ⟨S_, .i32⟩
  | 31 => ⟨S1, .i32⟩
  | 32 => ⟨S_, .i32⟩
  | 33 => ⟨S_, .i32⟩
  | 34 => ⟨S_, .i32⟩
  | 35 => ⟨S1, .i32⟩
  | 36 => ⟨S2, .i32⟩
  | 37 => ⟨S_, .f32⟩
  | 38 => ⟨S128x100000, .f32⟩
  | 39 => ⟨S128x100000, .f32⟩
  | 40 => ⟨S128x100000, .f32⟩
  | 41 => ⟨S_, .f32⟩
  | 42 => ⟨S_, .f32⟩
  | 43 => ⟨S_, .f32⟩
  | 44 => ⟨S1x1, .f32⟩
  | 45 => ⟨S1x1, .f32⟩
  | 46 => ⟨S1, .i32⟩
  | 47 => ⟨S_, .i32⟩
  | 48 => ⟨S1, .i32⟩
  | 49 => ⟨S_, .i32⟩
  | 50 => ⟨S128x100000, .i64⟩
  | 51 => ⟨S128x100000, .i64⟩
  | 52 => ⟨S_, .i64⟩
  | 53 => ⟨S128x100000, .i64⟩
  | 54 => ⟨S128x100000, .i64⟩
  | 55 => ⟨S_, .i64⟩
  | 56 => ⟨S128x100000, .i64⟩
  | 57 => ⟨S128x100000, .i64⟩
  | 58 => ⟨S128x100000, .i64⟩
  | 59 => ⟨S_, .i64⟩
  | 60 => ⟨S128x100000, .i64⟩
  | 61 => ⟨S128x100000, .i64⟩
  | 62 => ⟨S128x100000, .i32⟩
  | 63 => ⟨S128x100000, .i32⟩
  | 64 => ⟨S_, .i32⟩
  | 65 => ⟨S_, .i32⟩
  | 66 => ⟨S_, .i32⟩
  | 67 => ⟨S128x100000, .i32⟩
  | 68 => ⟨S128x100000, .i32⟩
  | 69 => ⟨S128x100000, .i32⟩
  | 70 => ⟨S128x100000, .i32⟩
  | 71 => ⟨S128x100000, .i32⟩
  | 72 => ⟨S_, .i32⟩
  | 73 => ⟨S128x100000, .i32⟩
  | 74 => ⟨S128x100000, .i32⟩
  | 75 => ⟨S_, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S_, .i32⟩
  | 82 => ⟨S128x100000, .i32⟩
  | 83 => ⟨S128x100000, .i32⟩
  | 84 => ⟨S_, .i32⟩
  | 85 => ⟨S128x100000, .i32⟩
  | 86 => ⟨S128x100000, .i32⟩
  | 87 => ⟨S128x100000, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S_, .i32⟩
  | 94 => ⟨S128x100000, .i32⟩
  | 95 => ⟨S128x100000, .i32⟩
  | 96 => ⟨S128x100000, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S_, .i32⟩
  | 103 => ⟨S128x100000, .i32⟩
  | 104 => ⟨S128x100000, .i32⟩
  | 105 => ⟨S128x100000, .i32⟩
  | 106 => ⟨S128x100000, .i32⟩
  | 107 => ⟨S128x100000, .i32⟩
  | 108 => ⟨S128x100000, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S128x100000, .i32⟩
  | 115 => ⟨S_, .i32⟩
  | 116 => ⟨S128x100000, .i32⟩
  | 117 => ⟨S128x100000, .i32⟩
  | 118 => ⟨S_, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S_, .i32⟩
  | 125 => ⟨S128x100000, .i32⟩
  | 126 => ⟨S128x100000, .i32⟩
  | 127 => ⟨S_, .i32⟩
  | _ => ⟨S128x100000, .f32⟩

abbrev hbmTy0_1 (i : Nat) : BufTy := match i % 128 with
  | 0 => ⟨S128x100000, .i32⟩
  | 1 => ⟨S128x100000, .i32⟩
  | 2 => ⟨S128x100000, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S_, .i32⟩
  | 9 => ⟨S128x100000, .i32⟩
  | 10 => ⟨S128x100000, .i32⟩
  | 11 => ⟨S128x100000, .i32⟩
  | 12 => ⟨S128x100000, .i32⟩
  | 13 => ⟨S128x100000, .i32⟩
  | 14 => ⟨S_, .i32⟩
  | 15 => ⟨S128x100000, .i32⟩
  | 16 => ⟨S128x100000, .i32⟩
  | 17 => ⟨S_, .i32⟩
  | 18 => ⟨S128x100000, .i32⟩
  | 19 => ⟨S128x100000, .i32⟩
  | 20 => ⟨S128x100000, .i32⟩
  | 21 => ⟨S128x100000, .i32⟩
  | 22 => ⟨S128x100000, .i32⟩
  | 23 => ⟨S128x100000, .i32⟩
  | 24 => ⟨S128x100000, .i32⟩
  | 25 => ⟨S128x100000, .i32⟩
  | 26 => ⟨S_, .i32⟩
  | 27 => ⟨S128x100000, .i32⟩
  | 28 => ⟨S128x100000, .i32⟩
  | 29 => ⟨S128x100000, .i32⟩
  | 30 => ⟨S_, .i32⟩
  | 31 => ⟨S128x100000, .i32⟩
  | 32 => ⟨S128x100000, .i32⟩
  | 33 => ⟨S_, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S_, .i32⟩
  | 40 => ⟨S128x100000, .i32⟩
  | 41 => ⟨S128x100000, .i32⟩
  | 42 => ⟨S_, .i32⟩
  | 43 => ⟨S128x100000, .i32⟩
  | 44 => ⟨S128x100000, .i32⟩
  | 45 => ⟨S128x100000, .i32⟩
  | 46 => ⟨S128x100000, .i32⟩
  | 47 => ⟨S128x100000, .i32⟩
  | 48 => ⟨S_, .i32⟩
  | 49 => ⟨S128x100000, .i32⟩
  | 50 => ⟨S128x100000, .i32⟩
  | 51 => ⟨S_, .i32⟩
  | 52 => ⟨S128x100000, .i32⟩
  | 53 => ⟨S128x100000, .i32⟩
  | 54 => ⟨S128x100000, .i32⟩
  | 55 => ⟨S128x100000, .i32⟩
  | 56 => ⟨S128x100000, .i32⟩
  | 57 => ⟨S_, .i32⟩
  | 58 => ⟨S128x100000, .i32⟩
  | 59 => ⟨S128x100000, .i32⟩
  | 60 => ⟨S_, .i32⟩
  | 61 => ⟨S128x100000, .i32⟩
  | 62 => ⟨S128x100000, .i32⟩
  | 63 => ⟨S128x100000, .i32⟩
  | 64 => ⟨S128x100000, .i32⟩
  | 65 => ⟨S128x100000, .i32⟩
  | 66 => ⟨S128x100000, .i32⟩
  | 67 => ⟨S128x100000, .i32⟩
  | 68 => ⟨S128x100000, .i32⟩
  | 69 => ⟨S_, .i32⟩
  | 70 => ⟨S128x100000, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S_, .i32⟩
  | 86 => ⟨S128x100000, .i32⟩
  | 87 => ⟨S128x100000, .i32⟩
  | 88 => ⟨S128x100000, .i32⟩
  | 89 => ⟨S128x100000, .i32⟩
  | 90 => ⟨S128x100000, .i32⟩
  | 91 => ⟨S_, .i32⟩
  | 92 => ⟨S128x100000, .i32⟩
  | 93 => ⟨S128x100000, .i32⟩
  | 94 => ⟨S_, .i32⟩
  | 95 => ⟨S128x100000, .i32⟩
  | 96 => ⟨S128x100000, .i32⟩
  | 97 => ⟨S128x100000, .i32⟩
  | 98 => ⟨S128x100000, .i32⟩
  | 99 => ⟨S128x100000, .i32⟩
  | 100 => ⟨S_, .i32⟩
  | 101 => ⟨S128x100000, .i32⟩
  | 102 => ⟨S128x100000, .i32⟩
  | 103 => ⟨S_, .i32⟩
  | 104 => ⟨S128x100000, .i32⟩
  | 105 => ⟨S128x100000, .i32⟩
  | 106 => ⟨S128x100000, .i32⟩
  | 107 => ⟨S128x100000, .i32⟩
  | 108 => ⟨S128x100000, .i32⟩
  | 109 => ⟨S128x100000, .i32⟩
  | 110 => ⟨S128x100000, .i32⟩
  | 111 => ⟨S128x100000, .i32⟩
  | 112 => ⟨S_, .i32⟩
  | 113 => ⟨S128x100000, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S_, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x100000, .f32⟩

abbrev hbmTy0_2 (i : Nat) : BufTy := match i % 128 with
  | 0 => ⟨S_, .i32⟩
  | 1 => ⟨S128x100000, .i32⟩
  | 2 => ⟨S128x100000, .i32⟩
  | 3 => ⟨S128x100000, .i32⟩
  | 4 => ⟨S128x100000, .i32⟩
  | 5 => ⟨S128x100000, .i32⟩
  | 6 => ⟨S_, .i32⟩
  | 7 => ⟨S128x100000, .i32⟩
  | 8 => ⟨S128x100000, .i32⟩
  | 9 => ⟨S_, .i32⟩
  | 10 => ⟨S128x100000, .i32⟩
  | 11 => ⟨S128x100000, .i32⟩
  | 12 => ⟨S128x100000, .i32⟩
  | 13 => ⟨S128x100000, .i32⟩
  | 14 => ⟨S128x100000, .i32⟩
  | 15 => ⟨S_, .i32⟩
  | 16 => ⟨S128x100000, .i32⟩
  | 17 => ⟨S128x100000, .i32⟩
  | 18 => ⟨S_, .i32⟩
  | 19 => ⟨S128x100000, .i32⟩
  | 20 => ⟨S128x100000, .i32⟩
  | 21 => ⟨S128x100000, .i32⟩
  | 22 => ⟨S128x100000, .i32⟩
  | 23 => ⟨S128x100000, .i32⟩
  | 24 => ⟨S128x100000, .i32⟩
  | 25 => ⟨S128x100000, .i32⟩
  | 26 => ⟨S128x100000, .i32⟩
  | 27 => ⟨S_, .i32⟩
  | 28 => ⟨S128x100000, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S128x100000, .f32⟩
  | 38 => ⟨S_, .f32⟩
  | 39 => ⟨S128x100000, .f32⟩
  | 40 => ⟨S128x100000, .f32⟩
  | 41 => ⟨S1x1, .f32⟩
  | 42 => ⟨S128x100000, .f32⟩
  | 43 => ⟨S128x100000, .f32⟩
  | 44 => ⟨S128x100000, .f32⟩
  | 45 => ⟨S128x100000, .f32⟩
  | 46 => ⟨S128x100000, .f32⟩
  | 47 => ⟨S128x100000, .f32⟩
  | 48 => ⟨S128x100000, .f32⟩
  | 49 => ⟨S128x100000, .f32⟩
  | 50 => ⟨S128x100000, .f32⟩
  | 51 => ⟨S128x100000, .f32⟩
  | 52 => ⟨S128x100000, .f32⟩
  | 53 => ⟨S128x100000, .i32⟩
  | 54 => ⟨S_, .f32⟩
  | 55 => ⟨S_, .i32⟩
  | 56 => ⟨S128, .f32⟩
  | 57 => ⟨S128, .i32⟩
  | 58 => ⟨S128x1, .i32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_c_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_cst : Ref sig .tc := ⟨.hbm, 41, rfl⟩
abbrev main_call0_cst_0 : Ref sig .tc := ⟨.hbm, 42, rfl⟩
abbrev main_call0_call0_v0 : Ref sig .tc := ⟨.hbm, 43, rfl⟩
abbrev main_call0_call0_v1 : Ref sig .tc := ⟨.hbm, 44, rfl⟩
abbrev main_call0_call0_v2 : Ref sig .tc := ⟨.hbm, 45, rfl⟩
abbrev main_call0_call0_v3 : Ref sig .tc := ⟨.hbm, 46, rfl⟩
abbrev main_call0_call0_v4 : Ref sig .tc := ⟨.hbm, 47, rfl⟩
abbrev main_call0_call0_v5 : Ref sig .tc := ⟨.hbm, 48, rfl⟩
abbrev main_call0_call0_v6 : Ref sig .tc := ⟨.hbm, 49, rfl⟩
abbrev main_call0_call0_v7 : Ref sig .tc := ⟨.hbm, 50, rfl⟩
abbrev main_call0_call0_v8 : Ref sig .tc := ⟨.hbm, 51, rfl⟩
abbrev main_call0_call0_c : Ref sig .tc := ⟨.hbm, 52, rfl⟩
abbrev main_call0_call0_v9 : Ref sig .tc := ⟨.hbm, 53, rfl⟩
abbrev main_call0_call0_v10 : Ref sig .tc := ⟨.hbm, 54, rfl⟩
abbrev main_call0_call0_c_0 : Ref sig .tc := ⟨.hbm, 55, rfl⟩
abbrev main_call0_call0_v11 : Ref sig .tc := ⟨.hbm, 56, rfl⟩
abbrev main_call0_call0_v12 : Ref sig .tc := ⟨.hbm, 57, rfl⟩
abbrev main_call0_call0_v13 : Ref sig .tc := ⟨.hbm, 58, rfl⟩
abbrev main_call0_call0_c_1 : Ref sig .tc := ⟨.hbm, 59, rfl⟩
abbrev main_call0_call0_v14 : Ref sig .tc := ⟨.hbm, 60, rfl⟩
abbrev main_call0_call0_v15 : Ref sig .tc := ⟨.hbm, 61, rfl⟩
abbrev main_call0_call0_v16 : Ref sig .tc := ⟨.hbm, 62, rfl⟩
abbrev main_call0_call0_v17 : Ref sig .tc := ⟨.hbm, 63, rfl⟩
abbrev main_call0_call0_call0_v0 : Ref sig .tc := ⟨.hbm, 64, rfl⟩
abbrev main_call0_call0_call0_c : Ref sig .tc := ⟨.hbm, 65, rfl⟩
abbrev main_call0_call0_call0_v1 : Ref sig .tc := ⟨.hbm, 66, rfl⟩
abbrev main_call0_call0_call0_v2 : Ref sig .tc := ⟨.hbm, 67, rfl⟩
abbrev main_call0_call0_call0_v3 : Ref sig .tc := ⟨.hbm, 68, rfl⟩
abbrev main_call0_call0_call0_v4 : Ref sig .tc := ⟨.hbm, 69, rfl⟩
abbrev main_call0_call0_call0_v5 : Ref sig .tc := ⟨.hbm, 70, rfl⟩
abbrev main_call0_call0_call0_v6 : Ref sig .tc := ⟨.hbm, 71, rfl⟩
abbrev main_call0_call0_call0_c_0 : Ref sig .tc := ⟨.hbm, 72, rfl⟩
abbrev main_call0_call0_call0_v7 : Ref sig .tc := ⟨.hbm, 73, rfl⟩
abbrev main_call0_call0_call0_v8 : Ref sig .tc := ⟨.hbm, 74, rfl⟩
abbrev main_call0_call0_call0_c_1 : Ref sig .tc := ⟨.hbm, 75, rfl⟩
abbrev main_call0_call0_call0_v9 : Ref sig .tc := ⟨.hbm, 76, rfl⟩
abbrev main_call0_call0_call0_v10 : Ref sig .tc := ⟨.hbm, 77, rfl⟩
abbrev main_call0_call0_call0_v11 : Ref sig .tc := ⟨.hbm, 78, rfl⟩
abbrev main_call0_call0_call0_v12 : Ref sig .tc := ⟨.hbm, 79, rfl⟩
abbrev main_call0_call0_call0_v13 : Ref sig .tc := ⟨.hbm, 80, rfl⟩
abbrev main_call0_call0_call0_c_2 : Ref sig .tc := ⟨.hbm, 81, rfl⟩
abbrev main_call0_call0_call0_v14 : Ref sig .tc := ⟨.hbm, 82, rfl⟩
abbrev main_call0_call0_call0_v15 : Ref sig .tc := ⟨.hbm, 83, rfl⟩
abbrev main_call0_call0_call0_c_3 : Ref sig .tc := ⟨.hbm, 84, rfl⟩
abbrev main_call0_call0_call0_v16 : Ref sig .tc := ⟨.hbm, 85, rfl⟩
abbrev main_call0_call0_call0_v17 : Ref sig .tc := ⟨.hbm, 86, rfl⟩
abbrev main_call0_call0_call0_v18 : Ref sig .tc := ⟨.hbm, 87, rfl⟩
abbrev main_call0_call0_call0_v19 : Ref sig .tc := ⟨.hbm, 88, rfl⟩
abbrev main_call0_call0_call0_v20 : Ref sig .tc := ⟨.hbm, 89, rfl⟩
abbrev main_call0_call0_call0_c_4 : Ref sig .tc := ⟨.hbm, 90, rfl⟩
abbrev main_call0_call0_call0_v21 : Ref sig .tc := ⟨.hbm, 91, rfl⟩
abbrev main_call0_call0_call0_v22 : Ref sig .tc := ⟨.hbm, 92, rfl⟩
abbrev main_call0_call0_call0_c_5 : Ref sig .tc := ⟨.hbm, 93, rfl⟩
abbrev main_call0_call0_call0_v23 : Ref sig .tc := ⟨.hbm, 94, rfl⟩
abbrev main_call0_call0_call0_v24 : Ref sig .tc := ⟨.hbm, 95, rfl⟩
abbrev main_call0_call0_call0_v25 : Ref sig .tc := ⟨.hbm, 96, rfl⟩
abbrev main_call0_call0_call0_v26 : Ref sig .tc := ⟨.hbm, 97, rfl⟩
abbrev main_call0_call0_call0_v27 : Ref sig .tc := ⟨.hbm, 98, rfl⟩
abbrev main_call0_call0_call0_c_6 : Ref sig .tc := ⟨.hbm, 99, rfl⟩
abbrev main_call0_call0_call0_v28 : Ref sig .tc := ⟨.hbm, 100, rfl⟩
abbrev main_call0_call0_call0_v29 : Ref sig .tc := ⟨.hbm, 101, rfl⟩
abbrev main_call0_call0_call0_c_7 : Ref sig .tc := ⟨.hbm, 102, rfl⟩
abbrev main_call0_call0_call0_v30 : Ref sig .tc := ⟨.hbm, 103, rfl⟩
abbrev main_call0_call0_call0_v31 : Ref sig .tc := ⟨.hbm, 104, rfl⟩
abbrev main_call0_call0_call0_v32 : Ref sig .tc := ⟨.hbm, 105, rfl⟩
abbrev main_call0_call0_call0_v33 : Ref sig .tc := ⟨.hbm, 106, rfl⟩
abbrev main_call0_call0_call0_v34 : Ref sig .tc := ⟨.hbm, 107, rfl⟩
abbrev main_call0_call0_call0_v35 : Ref sig .tc := ⟨.hbm, 108, rfl⟩
abbrev main_call0_call0_call0_v36 : Ref sig .tc := ⟨.hbm, 109, rfl⟩
abbrev main_call0_call0_call0_v37 : Ref sig .tc := ⟨.hbm, 110, rfl⟩
abbrev main_call0_call0_call0_c_8 : Ref sig .tc := ⟨.hbm, 111, rfl⟩
abbrev main_call0_call0_call0_v38 : Ref sig .tc := ⟨.hbm, 112, rfl⟩
abbrev main_call0_call0_call0_v39 : Ref sig .tc := ⟨.hbm, 113, rfl⟩
abbrev main_call0_call0_call0_v40 : Ref sig .tc := ⟨.hbm, 114, rfl⟩
abbrev main_call0_call0_call0_c_9 : Ref sig .tc := ⟨.hbm, 115, rfl⟩
abbrev main_call0_call0_call0_v41 : Ref sig .tc := ⟨.hbm, 116, rfl⟩
abbrev main_call0_call0_call0_v42 : Ref sig .tc := ⟨.hbm, 117, rfl⟩
abbrev main_call0_call0_call0_c_10 : Ref sig .tc := ⟨.hbm, 118, rfl⟩
abbrev main_call0_call0_call0_v43 : Ref sig .tc := ⟨.hbm, 119, rfl⟩
abbrev main_call0_call0_call0_v44 : Ref sig .tc := ⟨.hbm, 120, rfl⟩
abbrev main_call0_call0_call0_v45 : Ref sig .tc := ⟨.hbm, 121, rfl⟩
abbrev main_call0_call0_call0_v46 : Ref sig .tc := ⟨.hbm, 122, rfl⟩
abbrev main_call0_call0_call0_v47 : Ref sig .tc := ⟨.hbm, 123, rfl⟩
abbrev main_call0_call0_call0_c_11 : Ref sig .tc := ⟨.hbm, 124, rfl⟩
abbrev main_call0_call0_call0_v48 : Ref sig .tc := ⟨.hbm, 125, rfl⟩
abbrev main_call0_call0_call0_v49 : Ref sig .tc := ⟨.hbm, 126, rfl⟩
abbrev main_call0_call0_call0_c_12 : Ref sig .tc := ⟨.hbm, 127, rfl⟩
abbrev main_call0_call0_call0_v50 : Ref sig .tc := ⟨.hbm, 128, rfl⟩
abbrev main_call0_call0_call0_v51 : Ref sig .tc := ⟨.hbm, 129, rfl⟩
abbrev main_call0_call0_call0_v52 : Ref sig .tc := ⟨.hbm, 130, rfl⟩
abbrev main_call0_call0_call0_v53 : Ref sig .tc := ⟨.hbm, 131, rfl⟩
abbrev main_call0_call0_call0_v54 : Ref sig .tc := ⟨.hbm, 132, rfl⟩
abbrev main_call0_call0_call0_c_13 : Ref sig .tc := ⟨.hbm, 133, rfl⟩
abbrev main_call0_call0_call0_v55 : Ref sig .tc := ⟨.hbm, 134, rfl⟩
abbrev main_call0_call0_call0_v56 : Ref sig .tc := ⟨.hbm, 135, rfl⟩
abbrev main_call0_call0_call0_c_14 : Ref sig .tc := ⟨.hbm, 136, rfl⟩
abbrev main_call0_call0_call0_v57 : Ref sig .tc := ⟨.hbm, 137, rfl⟩
abbrev main_call0_call0_call0_v58 : Ref sig .tc := ⟨.hbm, 138, rfl⟩
abbrev main_call0_call0_call0_v59 : Ref sig .tc := ⟨.hbm, 139, rfl⟩
abbrev main_call0_call0_call0_v60 : Ref sig .tc := ⟨.hbm, 140, rfl⟩
abbrev main_call0_call0_call0_v61 : Ref sig .tc := ⟨.hbm, 141, rfl⟩
abbrev main_call0_call0_call0_c_15 : Ref sig .tc := ⟨.hbm, 142, rfl⟩
abbrev main_call0_call0_call0_v62 : Ref sig .tc := ⟨.hbm, 143, rfl⟩
abbrev main_call0_call0_call0_v63 : Ref sig .tc := ⟨.hbm, 144, rfl⟩
abbrev main_call0_call0_call0_c_16 : Ref sig .tc := ⟨.hbm, 145, rfl⟩
abbrev main_call0_call0_call0_v64 : Ref sig .tc := ⟨.hbm, 146, rfl⟩
abbrev main_call0_call0_call0_v65 : Ref sig .tc := ⟨.hbm, 147, rfl⟩
abbrev main_call0_call0_call0_v66 : Ref sig .tc := ⟨.hbm, 148, rfl⟩
abbrev main_call0_call0_call0_v67 : Ref sig .tc := ⟨.hbm, 149, rfl⟩
abbrev main_call0_call0_call0_v68 : Ref sig .tc := ⟨.hbm, 150, rfl⟩
abbrev main_call0_call0_call0_v69 : Ref sig .tc := ⟨.hbm, 151, rfl⟩
abbrev main_call0_call0_call0_v70 : Ref sig .tc := ⟨.hbm, 152, rfl⟩
abbrev main_call0_call0_call0_v71 : Ref sig .tc := ⟨.hbm, 153, rfl⟩
abbrev main_call0_call0_call0_c_17 : Ref sig .tc := ⟨.hbm, 154, rfl⟩
abbrev main_call0_call0_call0_v72 : Ref sig .tc := ⟨.hbm, 155, rfl⟩
abbrev main_call0_call0_call0_v73 : Ref sig .tc := ⟨.hbm, 156, rfl⟩
abbrev main_call0_call0_call0_v74 : Ref sig .tc := ⟨.hbm, 157, rfl⟩
abbrev main_call0_call0_call0_c_18 : Ref sig .tc := ⟨.hbm, 158, rfl⟩
abbrev main_call0_call0_call0_v75 : Ref sig .tc := ⟨.hbm, 159, rfl⟩
abbrev main_call0_call0_call0_v76 : Ref sig .tc := ⟨.hbm, 160, rfl⟩
abbrev main_call0_call0_call0_c_19 : Ref sig .tc := ⟨.hbm, 161, rfl⟩
abbrev main_call0_call0_call0_v77 : Ref sig .tc := ⟨.hbm, 162, rfl⟩
abbrev main_call0_call0_call0_v78 : Ref sig .tc := ⟨.hbm, 163, rfl⟩
abbrev main_call0_call0_call0_v79 : Ref sig .tc := ⟨.hbm, 164, rfl⟩
abbrev main_call0_call0_call0_v80 : Ref sig .tc := ⟨.hbm, 165, rfl⟩
abbrev main_call0_call0_call0_v81 : Ref sig .tc := ⟨.hbm, 166, rfl⟩
abbrev main_call0_call0_call0_c_20 : Ref sig .tc := ⟨.hbm, 167, rfl⟩
abbrev main_call0_call0_call0_v82 : Ref sig .tc := ⟨.hbm, 168, rfl⟩
abbrev main_call0_call0_call0_v83 : Ref sig .tc := ⟨.hbm, 169, rfl⟩
abbrev main_call0_call0_call0_c_21 : Ref sig .tc := ⟨.hbm, 170, rfl⟩
abbrev main_call0_call0_call0_v84 : Ref sig .tc := ⟨.hbm, 171, rfl⟩
abbrev main_call0_call0_call0_v85 : Ref sig .tc := ⟨.hbm, 172, rfl⟩
abbrev main_call0_call0_call0_v86 : Ref sig .tc := ⟨.hbm, 173, rfl⟩
abbrev main_call0_call0_call0_v87 : Ref sig .tc := ⟨.hbm, 174, rfl⟩
abbrev main_call0_call0_call0_v88 : Ref sig .tc := ⟨.hbm, 175, rfl⟩
abbrev main_call0_call0_call0_c_22 : Ref sig .tc := ⟨.hbm, 176, rfl⟩
abbrev main_call0_call0_call0_v89 : Ref sig .tc := ⟨.hbm, 177, rfl⟩
abbrev main_call0_call0_call0_v90 : Ref sig .tc := ⟨.hbm, 178, rfl⟩
abbrev main_call0_call0_call0_c_23 : Ref sig .tc := ⟨.hbm, 179, rfl⟩
abbrev main_call0_call0_call0_v91 : Ref sig .tc := ⟨.hbm, 180, rfl⟩
abbrev main_call0_call0_call0_v92 : Ref sig .tc := ⟨.hbm, 181, rfl⟩
abbrev main_call0_call0_call0_v93 : Ref sig .tc := ⟨.hbm, 182, rfl⟩
abbrev main_call0_call0_call0_v94 : Ref sig .tc := ⟨.hbm, 183, rfl⟩
abbrev main_call0_call0_call0_v95 : Ref sig .tc := ⟨.hbm, 184, rfl⟩
abbrev main_call0_call0_call0_c_24 : Ref sig .tc := ⟨.hbm, 185, rfl⟩
abbrev main_call0_call0_call0_v96 : Ref sig .tc := ⟨.hbm, 186, rfl⟩
abbrev main_call0_call0_call0_v97 : Ref sig .tc := ⟨.hbm, 187, rfl⟩
abbrev main_call0_call0_call0_c_25 : Ref sig .tc := ⟨.hbm, 188, rfl⟩
abbrev main_call0_call0_call0_v98 : Ref sig .tc := ⟨.hbm, 189, rfl⟩
abbrev main_call0_call0_call0_v99 : Ref sig .tc := ⟨.hbm, 190, rfl⟩
abbrev main_call0_call0_call0_v100 : Ref sig .tc := ⟨.hbm, 191, rfl⟩
abbrev main_call0_call0_call0_v101 : Ref sig .tc := ⟨.hbm, 192, rfl⟩
abbrev main_call0_call0_call0_v102 : Ref sig .tc := ⟨.hbm, 193, rfl⟩
abbrev main_call0_call0_call0_v103 : Ref sig .tc := ⟨.hbm, 194, rfl⟩
abbrev main_call0_call0_call0_v104 : Ref sig .tc := ⟨.hbm, 195, rfl⟩
abbrev main_call0_call0_call0_v105 : Ref sig .tc := ⟨.hbm, 196, rfl⟩
abbrev main_call0_call0_call0_c_26 : Ref sig .tc := ⟨.hbm, 197, rfl⟩
abbrev main_call0_call0_call0_v106 : Ref sig .tc := ⟨.hbm, 198, rfl⟩
abbrev main_call0_call0_call0_v107 : Ref sig .tc := ⟨.hbm, 199, rfl⟩
abbrev main_call0_call0_call0_v108 : Ref sig .tc := ⟨.hbm, 200, rfl⟩
abbrev main_call0_call0_call0_c_27 : Ref sig .tc := ⟨.hbm, 201, rfl⟩
abbrev main_call0_call0_call0_v109 : Ref sig .tc := ⟨.hbm, 202, rfl⟩
abbrev main_call0_call0_call0_v110 : Ref sig .tc := ⟨.hbm, 203, rfl⟩
abbrev main_call0_call0_call0_c_28 : Ref sig .tc := ⟨.hbm, 204, rfl⟩
abbrev main_call0_call0_call0_v111 : Ref sig .tc := ⟨.hbm, 205, rfl⟩
abbrev main_call0_call0_call0_v112 : Ref sig .tc := ⟨.hbm, 206, rfl⟩
abbrev main_call0_call0_call0_v113 : Ref sig .tc := ⟨.hbm, 207, rfl⟩
abbrev main_call0_call0_call0_v114 : Ref sig .tc := ⟨.hbm, 208, rfl⟩
abbrev main_call0_call0_call0_v115 : Ref sig .tc := ⟨.hbm, 209, rfl⟩
abbrev main_call0_call0_call0_c_29 : Ref sig .tc := ⟨.hbm, 210, rfl⟩
abbrev main_call0_call0_call0_v116 : Ref sig .tc := ⟨.hbm, 211, rfl⟩
abbrev main_call0_call0_call0_v117 : Ref sig .tc := ⟨.hbm, 212, rfl⟩
abbrev main_call0_call0_call0_c_30 : Ref sig .tc := ⟨.hbm, 213, rfl⟩
abbrev main_call0_call0_call0_v118 : Ref sig .tc := ⟨.hbm, 214, rfl⟩
abbrev main_call0_call0_call0_v119 : Ref sig .tc := ⟨.hbm, 215, rfl⟩
abbrev main_call0_call0_call0_v120 : Ref sig .tc := ⟨.hbm, 216, rfl⟩
abbrev main_call0_call0_call0_v121 : Ref sig .tc := ⟨.hbm, 217, rfl⟩
abbrev main_call0_call0_call0_v122 : Ref sig .tc := ⟨.hbm, 218, rfl⟩
abbrev main_call0_call0_call0_c_31 : Ref sig .tc := ⟨.hbm, 219, rfl⟩
abbrev main_call0_call0_call0_v123 : Ref sig .tc := ⟨.hbm, 220, rfl⟩
abbrev main_call0_call0_call0_v124 : Ref sig .tc := ⟨.hbm, 221, rfl⟩
abbrev main_call0_call0_call0_c_32 : Ref sig .tc := ⟨.hbm, 222, rfl⟩
abbrev main_call0_call0_call0_v125 : Ref sig .tc := ⟨.hbm, 223, rfl⟩
abbrev main_call0_call0_call0_v126 : Ref sig .tc := ⟨.hbm, 224, rfl⟩
abbrev main_call0_call0_call0_v127 : Ref sig .tc := ⟨.hbm, 225, rfl⟩
abbrev main_call0_call0_call0_v128 : Ref sig .tc := ⟨.hbm, 226, rfl⟩
abbrev main_call0_call0_call0_v129 : Ref sig .tc := ⟨.hbm, 227, rfl⟩
abbrev main_call0_call0_call0_c_33 : Ref sig .tc := ⟨.hbm, 228, rfl⟩
abbrev main_call0_call0_call0_v130 : Ref sig .tc := ⟨.hbm, 229, rfl⟩
abbrev main_call0_call0_call0_v131 : Ref sig .tc := ⟨.hbm, 230, rfl⟩
abbrev main_call0_call0_call0_c_34 : Ref sig .tc := ⟨.hbm, 231, rfl⟩
abbrev main_call0_call0_call0_v132 : Ref sig .tc := ⟨.hbm, 232, rfl⟩
abbrev main_call0_call0_call0_v133 : Ref sig .tc := ⟨.hbm, 233, rfl⟩
abbrev main_call0_call0_call0_v134 : Ref sig .tc := ⟨.hbm, 234, rfl⟩
abbrev main_call0_call0_call0_v135 : Ref sig .tc := ⟨.hbm, 235, rfl⟩
abbrev main_call0_call0_call0_v136 : Ref sig .tc := ⟨.hbm, 236, rfl⟩
abbrev main_call0_call0_call0_v137 : Ref sig .tc := ⟨.hbm, 237, rfl⟩
abbrev main_call0_call0_call0_v138 : Ref sig .tc := ⟨.hbm, 238, rfl⟩
abbrev main_call0_call0_call0_v139 : Ref sig .tc := ⟨.hbm, 239, rfl⟩
abbrev main_call0_call0_call0_c_35 : Ref sig .tc := ⟨.hbm, 240, rfl⟩
abbrev main_call0_call0_call0_v140 : Ref sig .tc := ⟨.hbm, 241, rfl⟩
abbrev main_call0_call0_call0_v141 : Ref sig .tc := ⟨.hbm, 242, rfl⟩
abbrev main_call0_call0_call0_v142 : Ref sig .tc := ⟨.hbm, 243, rfl⟩
abbrev main_call0_call0_call0_c_36 : Ref sig .tc := ⟨.hbm, 244, rfl⟩
abbrev main_call0_call0_call0_v143 : Ref sig .tc := ⟨.hbm, 245, rfl⟩
abbrev main_call0_call0_call0_v144 : Ref sig .tc := ⟨.hbm, 246, rfl⟩
abbrev main_call0_call0_call0_c_37 : Ref sig .tc := ⟨.hbm, 247, rfl⟩
abbrev main_call0_call0_call0_v145 : Ref sig .tc := ⟨.hbm, 248, rfl⟩
abbrev main_call0_call0_call0_v146 : Ref sig .tc := ⟨.hbm, 249, rfl⟩
abbrev main_call0_call0_call0_v147 : Ref sig .tc := ⟨.hbm, 250, rfl⟩
abbrev main_call0_call0_call0_v148 : Ref sig .tc := ⟨.hbm, 251, rfl⟩
abbrev main_call0_call0_call0_v149 : Ref sig .tc := ⟨.hbm, 252, rfl⟩
abbrev main_call0_call0_call0_c_38 : Ref sig .tc := ⟨.hbm, 253, rfl⟩
abbrev main_call0_call0_call0_v150 : Ref sig .tc := ⟨.hbm, 254, rfl⟩
abbrev main_call0_call0_call0_v151 : Ref sig .tc := ⟨.hbm, 255, rfl⟩
abbrev main_call0_call0_call0_c_39 : Ref sig .tc := ⟨.hbm, 256, rfl⟩
abbrev main_call0_call0_call0_v152 : Ref sig .tc := ⟨.hbm, 257, rfl⟩
abbrev main_call0_call0_call0_v153 : Ref sig .tc := ⟨.hbm, 258, rfl⟩
abbrev main_call0_call0_call0_v154 : Ref sig .tc := ⟨.hbm, 259, rfl⟩
abbrev main_call0_call0_call0_v155 : Ref sig .tc := ⟨.hbm, 260, rfl⟩
abbrev main_call0_call0_call0_v156 : Ref sig .tc := ⟨.hbm, 261, rfl⟩
abbrev main_call0_call0_call0_c_40 : Ref sig .tc := ⟨.hbm, 262, rfl⟩
abbrev main_call0_call0_call0_v157 : Ref sig .tc := ⟨.hbm, 263, rfl⟩
abbrev main_call0_call0_call0_v158 : Ref sig .tc := ⟨.hbm, 264, rfl⟩
abbrev main_call0_call0_call0_c_41 : Ref sig .tc := ⟨.hbm, 265, rfl⟩
abbrev main_call0_call0_call0_v159 : Ref sig .tc := ⟨.hbm, 266, rfl⟩
abbrev main_call0_call0_call0_v160 : Ref sig .tc := ⟨.hbm, 267, rfl⟩
abbrev main_call0_call0_call0_v161 : Ref sig .tc := ⟨.hbm, 268, rfl⟩
abbrev main_call0_call0_call0_v162 : Ref sig .tc := ⟨.hbm, 269, rfl⟩
abbrev main_call0_call0_call0_v163 : Ref sig .tc := ⟨.hbm, 270, rfl⟩
abbrev main_call0_call0_call0_c_42 : Ref sig .tc := ⟨.hbm, 271, rfl⟩
abbrev main_call0_call0_call0_v164 : Ref sig .tc := ⟨.hbm, 272, rfl⟩
abbrev main_call0_call0_call0_v165 : Ref sig .tc := ⟨.hbm, 273, rfl⟩
abbrev main_call0_call0_call0_c_43 : Ref sig .tc := ⟨.hbm, 274, rfl⟩
abbrev main_call0_call0_call0_v166 : Ref sig .tc := ⟨.hbm, 275, rfl⟩
abbrev main_call0_call0_call0_v167 : Ref sig .tc := ⟨.hbm, 276, rfl⟩
abbrev main_call0_call0_call0_v168 : Ref sig .tc := ⟨.hbm, 277, rfl⟩
abbrev main_call0_call0_call0_v169 : Ref sig .tc := ⟨.hbm, 278, rfl⟩
abbrev main_call0_call0_call0_v170 : Ref sig .tc := ⟨.hbm, 279, rfl⟩
abbrev main_call0_call0_v18_0 : Ref sig .tc := ⟨.hbm, 280, rfl⟩
abbrev main_call0_call0_call0_v172 : Ref sig .tc := ⟨.hbm, 281, rfl⟩
abbrev main_call0_call0_call0_v173 : Ref sig .tc := ⟨.hbm, 282, rfl⟩
abbrev main_call0_call0_call0_c_44 : Ref sig .tc := ⟨.hbm, 283, rfl⟩
abbrev main_call0_call0_call0_v174 : Ref sig .tc := ⟨.hbm, 284, rfl⟩
abbrev main_call0_call0_v18_1 : Ref sig .tc := ⟨.hbm, 285, rfl⟩
abbrev main_call0_call0_v19 : Ref sig .tc := ⟨.hbm, 286, rfl⟩
abbrev main_call0_call0_c_2 : Ref sig .tc := ⟨.hbm, 287, rfl⟩
abbrev main_call0_call0_v20 : Ref sig .tc := ⟨.hbm, 288, rfl⟩
abbrev main_call0_call0_v21 : Ref sig .tc := ⟨.hbm, 289, rfl⟩
abbrev main_call0_call0_c_3 : Ref sig .tc := ⟨.hbm, 290, rfl⟩
abbrev main_call0_call0_v22 : Ref sig .tc := ⟨.hbm, 291, rfl⟩
abbrev main_call0_call0_v23 : Ref sig .tc := ⟨.hbm, 292, rfl⟩
abbrev main_call0_call0_v24 : Ref sig .tc := ⟨.hbm, 293, rfl⟩
abbrev main_call0_call0_cst : Ref sig .tc := ⟨.hbm, 294, rfl⟩
abbrev main_call0_call0_v25 : Ref sig .tc := ⟨.hbm, 295, rfl⟩
abbrev main_call0_call0_v26 : Ref sig .tc := ⟨.hbm, 296, rfl⟩
abbrev main_call0_call0_v27 : Ref sig .tc := ⟨.hbm, 297, rfl⟩
abbrev main_call0_call0_v28 : Ref sig .tc := ⟨.hbm, 298, rfl⟩
abbrev main_call0_call0_v29 : Ref sig .tc := ⟨.hbm, 299, rfl⟩
abbrev main_call0_call0_v30 : Ref sig .tc := ⟨.hbm, 300, rfl⟩
abbrev main_call0_call0_v31 : Ref sig .tc := ⟨.hbm, 301, rfl⟩
abbrev main_call0_call0_v32 : Ref sig .tc := ⟨.hbm, 302, rfl⟩
abbrev main_call0_v0 : Ref sig .tc := ⟨.hbm, 303, rfl⟩
abbrev main_call0_v1 : Ref sig .tc := ⟨.hbm, 304, rfl⟩
abbrev main_call0_v2 : Ref sig .tc := ⟨.hbm, 305, rfl⟩
abbrev main_call0_v3 : Ref sig .tc := ⟨.hbm, 306, rfl⟩
abbrev main_v29 : Ref sig .tc := ⟨.hbm, 307, rfl⟩
abbrev main_v30 : Ref sig .tc := ⟨.hbm, 308, rfl⟩
abbrev main_call1_v0 : Ref sig .tc := ⟨.hbm, 309, rfl⟩
abbrev main_call1_cst : Ref sig .tc := ⟨.hbm, 310, rfl⟩
abbrev main_call1_c : Ref sig .tc := ⟨.hbm, 311, rfl⟩
abbrev main_call1_v1_0 : Ref sig .tc := ⟨.hbm, 312, rfl⟩
abbrev main_v31 : Ref sig .tc := ⟨.hbm, 313, rfl⟩
abbrev main_v32 : Ref sig .tc := ⟨.hbm, 314, rfl⟩

abbrev nD : Nat := 1
abbrev τ : Topo := Topo.v7x

variable {F : FTy → Type} [FloatOps F]
-- ==== Proof.Threefry.lean ====
module

public import Idealize.ShloMosaic.Lib.KernelVsHost

@[expose] public section

/-! # The Threefry-2x32 generator on words

The generator both programs run, one pair of 32-bit words at a time: twenty mixing steps in five groups
of four, each group followed by an injection of two of the three key words and the group's number. -/

namespace Cert.Threefry

open Idealize.ShloMosaic

/-- A pair of words. -/
abbrev Pair := BitVec 32 × BitVec 32

/-- One mixing step: add the second word to the first, rotate the second left by `l` (`r` is `32 - l`), and
    xor the new first word into it. -/
def mix (l r : BitVec 32) (s : Pair) : Pair :=
  (s.1 + s.2, (s.1 + s.2) ^^^ (IntOp.shli .vector s.2 l ||| IntOp.shrui .vector s.2 r))

/-- The four steps of the first, third and fifth group. -/
def groupA (s : Pair) : Pair := mix 6#32 26#32 (mix 26#32 6#32 (mix 15#32 17#32 (mix 13#32 19#32 s)))

/-- The four steps of the second and fourth group. -/
def groupB (s : Pair) : Pair := mix 24#32 8#32 (mix 16#32 16#32 (mix 29#32 3#32 (mix 17#32 15#32 s)))

/-- A key injection: one key word on each word, and the group's number on the second. -/
def inject (a b n : BitVec 32) (s : Pair) : Pair := (s.1 + a, s.2 + b + n)

/-- The generator with key words `k0` and `k1` on the counter `s`. -/
def threefry (k0 k1 : BitVec 32) (s : Pair) : Pair :=
  let k2 := (k0 ^^^ k1) ^^^ 466688986#32
  inject k2 k0 5#32 (groupA (inject k1 k2 4#32 (groupB (inject k0 k1 3#32 (groupA
    (inject k2 k0 2#32 (groupB (inject k1 k2 1#32 (groupA (s.1 + k0, s.2 + k1))))))))))

end Cert.Threefry
-- ==== Proof.Noise.lean ====
module

public import proofs.«01_k».proof.Proof.Threefry
public import Idealize.ShloMosaic.PureOps.Ideal
public import Idealize.ShloMosaic.Lib.KernelVsHost

@[expose] public section

/-! # The Gumbel noise of one element

From the word of random bits of an element to its noise, over the extended reals. -/

noncomputable section

namespace Cert

open Idealize.ShloMosaic Cert.Threefry

/-- The word of random bits of the counter `s`. -/
def bits (k0 k1 : BitVec 32) (s : Pair) : BitVec 32 := (threefry k0 k1 s).1 ^^^ (threefry k0 k1 s).2

/-- The counter of row `r` and action `c`: the element's position in row-major order. -/
def counter (r c : ℕ) : Pair := (0#32, BitVec.ofNat 32 (r * 100000 + c))

/-- The smallest positive normal number. -/
def tiny : EReal := Ideal.ofBits .f32 0x00800000#32

/-- The number one, as both programs write it. -/
def one : EReal := Ideal.ofBits .f32 0x3F800000#32

/-- A uniform number between `tiny` and one, from a word's upper bits as the fraction of a number between
    one and two. -/
def uniform (b : BitVec 32) : EReal :=
  max ((Ideal.ofBits .f32 (IntOp.shrui .vector b 9#32 ||| 1065353216#32) - one) * (one - tiny) + tiny) tiny

/-- Gumbel noise from a word. -/
def gumbel (b : BitVec 32) : EReal := -Ideal.log (-Ideal.log (uniform b))

/-- The noise of row `r` and action `c` under the key 42. -/
def noise (r c : ℕ) : EReal := gumbel (bits 0#32 42#32 (counter r c))

end Cert

end
-- ==== Proof.Mask.lean ====
module

public import proofs.«01_k».proof.Pre_all_allowed
public import proofs.«01_k».proof.Proof.Noise
public import Idealize.ShloMosaic.Lib.Affine
public import Idealize.ShloMosaic.Lib.Pointwise.Reduce

@[expose] public section

/-! # The precondition

`all_allowed` is the conjunction, over the mask's elements, of "it is one". So where it holds, every element
of the mask is one. -/

noncomputable section

namespace Cert.Mask

open Idealize.ShloMosaic Cert.Pre_all_allowed

/-- The side conditions of the precondition's operations. -/
theorem facts : Facts where
  bcast_S_S128x100000 := by decide
  reducesTo_S128x100000_S_d0_1 := by decide
  h_S_ := by decide

/-- A conjunction that is one has only ones. -/
theorem all_of_fold {ι : Type} [DecidableEq ι] (x : ι → BitVec 1) (b : BitVec 1) (s : Finset ι)
    (h : s.fold IntOp.andi b x = 1#1) : ∀ i ∈ s, x i = 1#1 := by
  induction s using Finset.induction_on with
  | empty => simp
  | insert a s ha ih =>
    rw [Finset.fold_insert ha] at h
    have h2 : x a = 1#1 ∧ s.fold IntOp.andi b x = 1#1 := by
      generalize s.fold IntOp.andi b x = y at h
      generalize x a = z at h
      revert y z; decide
    intro i hi
    rcases Finset.mem_insert.mp hi with rfl | hi
    · exact h2.1
    · exact ih h2.2 i hi

/-- Where the precondition holds, the mask is one everywhere. -/
theorem ones [Facts] (a b : S128x100000.Idx → EReal) (h : fn (F := Ideal) a b = fun _ => 1#1) (i : S128x100000.Idx) :
    b i = one := by
  have h1 := congrFun h (fun k => k.elim0)
  rw [fn] at h1
  have h2 := all_of_fold _ _ _ ((Host.reduce_eq_fold IntOp.andi _ _ _ _ _).symm.trans h1) i
    (Finset.mem_filter.mpr ⟨Finset.mem_univ _, funext fun k => k.elim0⟩)
  have h3 : BitVec.ofBool (decide (b i = one)) = 1#1 := h2
  by_contra hn
  rw [decide_eq_false hn] at h3
  exact absurd h3 (by decide)

end Cert.Mask

end
-- ==== Proof.Ref.Solve.lean ====
module

public import Idealize.ShloMosaic.Lib.StableHlo.RunHlo

@[expose] public section

/-! # A host program as a system of equations

A straight line of host operations that writes every buffer at most once, and reads a buffer only
before any later operation writes it, ends in contents `F` that no operation of the line changes any
more. Each operation is then an equation between the final contents of its operands and of its
result, and the whole run is the system of these equations: nothing needs to be substituted into
anything else.

`Ranked` is the condition on the line, checked operation by operation over the buffers' numbers;
`Ranked.fixed` is the conclusion. `Solves F p` says that the contents `F` are left alone by every
operation of the program `p`; it is taken apart along `p` itself, a function body at a time. -/

noncomputable section

namespace Cert.Ref

open Idealize.ShloMosaic Idealize.ShloMosaic.StableHlo Idealize.SL.Sem

variable {nD : Nat} {τ : Topo} {sig : RefSig} {Val : EltTy → Type} {Λ : Labels}

/-! ## Lines in which each buffer is written once -/

/-- A buffer's number among those of its memory space. -/
def num (r : Ref sig .tc) : ℕ := r.idx.val

/-- The operation writes `y` alone, a value of device memory, from buffers numbered below `y`. -/
structure Writes (op : HloOp τ sig Val) (y : Ref sig .tc) : Prop where
  writes : op.writes = {Proc.devRef (τ := τ) .tc y}
  bufs : op.bufs ⊆ tcRefs τ sig
  fresh : op.fresh = ∅
  dep : ∀ F G : Valuation τ sig Val, (∀ r : Ref sig .tc, num r < num y → F (Proc.devRef .tc r) = G (Proc.devRef .tc r)) →
    op.result F (Proc.devRef .tc y) = op.result G (Proc.devRef .tc y)

/-- The operations write buffers of strictly increasing numbers, from `n` on. -/
inductive Ranked : ℕ → List (HloOp τ sig Val) → Prop
  | nil (n : ℕ) : Ranked n []
  | cons {n : ℕ} {op : HloOp τ sig Val} {ops : List (HloOp τ sig Val)} (y : Ref sig .tc) (hn : n ≤ num y)
      (hy : Writes op y) (h : Ranked (num y + 1) ops) : Ranked n (op :: ops)

/-- A constant. -/
theorem writes_nullary (y : Ref sig .tc) (v : y.ty.Contents Val) (hy) : Writes (nullary (τ := τ) y v hy) y where
  writes := rfl
  bufs := by simp
  fresh := rfl
  dep F G _ := by rw [nullary_result, nullary_result]

/-- An operation of one operand. -/
theorem writes_unary (x y : Ref sig .tc) (f : x.ty.Contents Val → y.ty.Contents Val) (hx hy) (h : num x < num y) :
    Writes (unary (τ := τ) x y f hx hy) y where
  writes := rfl
  bufs := by simp
  fresh := rfl
  dep F G e := by rw [unary_result, unary_result, e x h]

/-- An operation of two operands. -/
theorem writes_binary (a b y : Ref sig .tc) (f : a.ty.Contents Val → b.ty.Contents Val → y.ty.Contents Val) (ha hb hy)
    (h : num a < num y ∧ num b < num y) : Writes (binary (τ := τ) a b y f ha hb hy) y where
  writes := rfl
  bufs := by simp
  fresh := rfl
  dep F G e := by rw [binary_result, binary_result, e a h.1, e b h.2]

/-- An operation of four operands. -/
theorem writes_quaternary (a b c d y : Ref sig .tc)
    (f : a.ty.Contents Val → b.ty.Contents Val → c.ty.Contents Val → d.ty.Contents Val → y.ty.Contents Val) (ha hb hc hd hy)
    (h : (num a < num y ∧ num b < num y) ∧ num c < num y ∧ num d < num y) :
    Writes (quaternary (τ := τ) a b c d y f ha hb hc hd hy) y where
  writes := rfl
  bufs := by simp
  fresh := rfl
  dep F G e := by rw [quaternary_result, quaternary_result, e a h.1.1, e b h.1.2, e c h.2.1, e d h.2.2]

/-- A reshape. -/
theorem writes_reshape (x y : Ref sig .tc) (he hn hx hy) (h : num x < num y) :
    Writes (reshape (τ := τ) (Val := Val) x y he hn hx hy) y where
  writes := rfl
  bufs := by simp
  fresh := rfl
  dep F G e := by rw [reshape_result, reshape_result, e x h]

/-- A ranked line leaves every buffer numbered below its first number alone. -/
theorem Ranked.keeps {n : ℕ} {ops : List (HloOp τ sig Val)} (h : Ranked n ops) (V : Valuation τ sig Val)
    (r : Ref sig .tc) (hr : num r < n) : after ops V (Proc.devRef .tc r) = V (Proc.devRef .tc r) := by
  induction h generalizing V with
  | nil => rfl
  | cons y hn hy _ ih =>
    rw [after_cons, ih _ (by omega), result_of_writes_ne _ V y r hy.writes (by rintro rfl; omega)]

/-- No operation of a ranked line changes the contents the line ends in. -/
theorem Ranked.fixed {n : ℕ} {ops : List (HloOp τ sig Val)} (h : Ranked n ops) (V : Valuation τ sig Val) :
    ∀ op ∈ ops, op.result (after ops V) = after ops V := by
  induction h generalizing V with
  | nil => intro op h; cases h
  | @cons n op ops y hn hy hops ih =>
    intro o ho
    rw [after_cons]
    rcases List.mem_cons.mp ho with rfl | ho
    · funext b
      by_cases hb : b ∈ o.writes
      · rw [hy.writes, Finset.mem_singleton] at hb
        subst hb
        rw [hops.keeps _ y (Nat.lt_succ_self _)]
        refine hy.dep _ _ fun r hr => ?_
        rw [hops.keeps _ r (by omega), result_of_writes_ne o V y r hy.writes (by rintro rfl; omega)]
      · exact o.result_of_not_mem _ hb
    · exact ih _ o ho

/-- Every operation of a ranked line touches the core's own buffers only. -/
theorem Ranked.bufs {n : ℕ} {ops : List (HloOp τ sig Val)} (h : Ranked n ops) :
    ops.Forall fun op => op.bufs ⊆ tcRefs τ sig := by
  induction h with
  | nil => trivial
  | cons y hn hy _ ih => exact (List.forall_cons _ _ _).mpr ⟨hy.bufs, ih⟩

/-- No operation of a ranked line leaves its result undetermined. -/
theorem Ranked.fresh {n : ℕ} {ops : List (HloOp τ sig Val)} (h : Ranked n ops) : ∀ op ∈ ops, op.fresh = ∅ := by
  induction h with
  | nil => intro op h; cases h
  | cons y hn hy _ ih =>
    intro o ho
    rcases List.mem_cons.mp ho with rfl | ho
    · exact hy.fresh
    · exact ih o ho

/-! ## The equations of a program -/

/-- The operation leaves the contents `F` as they are. -/
def Fixed (F : Valuation τ sig Val) (op : HloOp τ sig Val) : Prop := op.result F = F

/-- What one step asks of the contents `F`, the rest of the program asking `next` of the step's answer: that a
    host operation leave them alone; nothing at the operation's end, which answers with them. -/
def stepSolves (F : Valuation τ sig Val) {β : Type} (e : TpuEff nD τ sig Val Λ .tc β) : (β → Prop) → Prop :=
  match e with
  | .hloBegin _ op => fun next => Fixed F op ∧ next ⟨⟩
  | .hloEnd _ _ => fun next => next fun b => F b.1
  | _ => fun _ => False

/-- Every operation of the program, a line of host operations, leaves the contents `F` alone. -/
def Solves (F : Valuation τ sig Val) {α : Type} (p : Prog (TpuEff nD τ sig Val Λ .tc) α) : Prop :=
  p.rec (motive := fun _ => Prop) (fun _ => True) (fun e _ ih => stepSolves F e ih)

/-- A program that does nothing states no equation. -/
theorem solves_pure (F : Valuation τ sig Val) {α : Type} (a : α) :
    Solves F (pure a : Prog (TpuEff nD τ sig Val Λ .tc) α) ↔ True := Iff.rfl

/-- One operation and then the rest. -/
theorem solves_hlo (F : Valuation τ sig Val) {α : Type} (op : HloOp τ sig Val) (k : PUnit → Prog (TpuEff nD τ sig Val Λ .tc) α) :
    Solves F ((hlo rfl op fun _ => .ret (⟨⟩ : PUnit)) >>= k) ↔ Fixed F op ∧ Solves F (k ⟨⟩) := Iff.rfl

/-- The last operation. -/
theorem solves_hlo_last (F : Valuation τ sig Val) (op : HloOp τ sig Val) :
    Solves F (hlo rfl op fun _ => .ret (⟨⟩ : PUnit) : Prog (TpuEff nD τ sig Val Λ .tc) PUnit) ↔ Fixed F op :=
  ⟨fun h => h.1, fun h => ⟨h, trivial⟩⟩

/-- The contents solve a program followed by another exactly when they solve both. -/
theorem solves_bind (F : Valuation τ sig Val) {α : Type} (p : Prog (TpuEff nD τ sig Val Λ .tc) PUnit)
    (q : PUnit → Prog (TpuEff nD τ sig Val Λ .tc) α) : Solves F (p >>= q) ↔ Solves F p ∧ Solves F (q ⟨⟩) := by
  suffices H : ∀ {β : Type} (p : Prog (TpuEff nD τ sig Val Λ .tc) β) (q : β → Prog (TpuEff nD τ sig Val Λ .tc) α)
      (R : Prop), (∀ b, Solves F (q b) ↔ R) → (Solves F (p >>= q) ↔ Solves F p ∧ R) from
    H p q _ fun _ => Iff.rfl
  intro β p q R hR
  induction p with
  | ret a => exact (hR a).trans ⟨fun h => ⟨trivial, h⟩, fun h => h.2⟩
  | op e c ih =>
    have hb : Solves F (Prog.op e c >>= q) = stepSolves F e fun x => Solves F (c x >>= q) := rfl
    have hp : Solves F (Prog.op e c) = stepSolves F e fun x => Solves F (c x) := rfl
    rw [hb, hp]
    have ih' := fun x => ih x
    simp only [ih']
    unfold stepSolves
    split
    · exact and_assoc.symm
    · exact Iff.rfl
    · exact ⟨fun h => h.elim, fun h => h.1⟩

/-- Contents that every operation of a line leaves alone solve the line. -/
theorem solves_seq (F : Valuation τ sig Val) (ops : List (HloOp τ sig Val)) (h : ∀ op ∈ ops, op.result F = F) :
    Solves F (seq ops : Prog (TpuEff nD τ sig Val Λ .tc) PUnit) := by
  induction ops with
  | nil => trivial
  | cons op ops ih =>
    exact (solves_hlo F op _).mpr ⟨h op List.mem_cons_self, ih fun o ho => h o (List.mem_cons_of_mem _ ho)⟩

/-! ## The equation of one operation -/

/-- An operation that writes `y` alone leaves `F` as it is exactly when it leaves `y` as it is. -/
theorem fixed_iff (F : Valuation τ sig Val) (op : HloOp τ sig Val) (y : Ref sig .tc)
    (hw : op.writes = {Proc.devRef (τ := τ) .tc y}) (v : y.ty.Contents Val) (hv : op.result F (Proc.devRef .tc y) = v) :
    Fixed F op ↔ F (Proc.devRef .tc y) = v := by
  constructor
  · intro h; rw [← hv]; exact (congrFun h _).symm
  · intro h; funext b
    by_cases hb : b ∈ op.writes
    · rw [hw, Finset.mem_singleton] at hb
      subst hb; exact hv.trans h.symm
    · exact op.result_of_not_mem F hb

/-- The equation of a constant. -/
theorem fixed_nullary (F : Valuation τ sig Val) (y : Ref sig .tc) (v : y.ty.Contents Val) (hy) :
    Fixed F (nullary (τ := τ) y v hy) ↔ F (Proc.devRef .tc y) = v :=
  fixed_iff F _ y rfl _ (nullary_result ..)
/-- The equation of an operation of one operand. -/
theorem fixed_unary (F : Valuation τ sig Val) (x y : Ref sig .tc) (f : x.ty.Contents Val → y.ty.Contents Val) (hx hy) :
    Fixed F (unary (τ := τ) x y f hx hy) ↔ F (Proc.devRef .tc y) = f (F (Proc.devRef .tc x)) :=
  fixed_iff F _ y rfl _ (unary_result ..)
/-- The equation of an operation of two operands. -/
theorem fixed_binary (F : Valuation τ sig Val) (a b y : Ref sig .tc)
    (f : a.ty.Contents Val → b.ty.Contents Val → y.ty.Contents Val) (ha hb hy) :
    Fixed F (binary (τ := τ) a b y f ha hb hy)
      ↔ F (Proc.devRef .tc y) = f (F (Proc.devRef .tc a)) (F (Proc.devRef .tc b)) :=
  fixed_iff F _ y rfl _ (binary_result ..)

variable {T Ta Tb Tc Td Tx Ty : BufTy}

/-- What the contents `F` hold at a typed reference, at the value's type. -/
def val (F : Valuation τ sig Val) (x : TRef sig T) : T.Contents Val := x.ofBuf (F (Proc.devRef .tc x.ref))

/-- An equation of contents, read at the type of the value. -/
theorem eq_toBuf_iff (F : Valuation τ sig Val) (y : TRef sig Ty) (v : Ty.Contents Val) :
    F (Proc.devRef .tc y.ref) = y.toBuf v ↔ val F y = v := by
  obtain ⟨r, rfl, _, _⟩ := y
  exact Iff.rfl

/-- The equation of a constant, at its type. -/
theorem fixed_tnullary (F : Valuation τ sig Val) (y : TRef sig Ty) (v : Ty.Contents Val) :
    Fixed F (TRef.nullary (τ := τ) y v) ↔ val F y = v :=
  (fixed_nullary ..).trans (eq_toBuf_iff ..)
/-- The equation of an operation of one operand, at the types. -/
theorem fixed_tunary (F : Valuation τ sig Val) (x : TRef sig Tx) (y : TRef sig Ty) (f : Tx.Contents Val → Ty.Contents Val) :
    Fixed F (TRef.unary (τ := τ) x y f) ↔ val F y = f (val F x) :=
  (fixed_unary ..).trans (eq_toBuf_iff ..)
/-- The equation of an operation of two operands, at the types. -/
theorem fixed_tbinary (F : Valuation τ sig Val) (a : TRef sig Ta) (b : TRef sig Tb) (y : TRef sig Ty)
    (f : Ta.Contents Val → Tb.Contents Val → Ty.Contents Val) :
    Fixed F (TRef.binary (τ := τ) a b y f) ↔ val F y = f (val F a) (val F b) :=
  (fixed_binary ..).trans (eq_toBuf_iff ..)
/-- The equation of an operation of four operands, at the types. -/
theorem fixed_tquaternary (F : Valuation τ sig Val) (a : TRef sig Ta) (b : TRef sig Tb) (c : TRef sig Tc) (d : TRef sig Td)
    (y : TRef sig Ty) (f : Ta.Contents Val → Tb.Contents Val → Tc.Contents Val → Td.Contents Val → Ty.Contents Val) :
    Fixed F (TRef.quaternary (τ := τ) a b c d y f) ↔ val F y = f (val F a) (val F b) (val F c) (val F d) :=
  (fixed_iff F _ y.ref rfl _ (quaternary_result ..)).trans (eq_toBuf_iff ..)
/-- A reshape between buffers of the shapes `s` and `t`, read at those shapes. -/
theorem reshape_eq_iff {s t : Shape} {e : EltTy} {X Y : BufTy} (hX : X = ⟨s, e⟩) (hY : Y = ⟨t, e⟩) (u : X.Contents Val)
    (v : Y.Contents Val) (he : X.elt = Y.elt) (hn' : X.shape.ShapeCasts Y.shape) (hn : s.ShapeCasts t) :
    v = (fun i => he ▸ shapeCast Y.shape u hn' i)
      ↔ cast (congrArg (fun U : BufTy => U.Contents Val) hY) v
        = (shapeCast t (cast (congrArg (fun U : BufTy => U.Contents Val) hX) u : s.Idx → Val e) hn : t.Idx → Val e) := by
  subst hX hY
  exact Iff.rfl
/-- The equation of a reshape, at the types. -/
theorem fixed_treshape {s t : Shape} {e : EltTy} (F : Valuation τ sig Val) (x : TRef sig ⟨s, e⟩) (y : TRef sig ⟨t, e⟩)
    (hn : s.ShapeCasts t) :
    Fixed F (TRef.reshape (τ := τ) (Val := Val) x y rfl hn)
      ↔ val F y = (shapeCast t (val F x : s.Idx → Val e) hn : t.Idx → Val e) :=
  (fixed_iff F _ y.ref rfl _ (reshape_result ..)).trans (reshape_eq_iff x.ty_eq y.ty_eq _ _ _ _ hn)

end Cert.Ref

end
-- ==== Proof.Ref.Run.lean ====
module

public import proofs.«01_k».proof.Proof.Ref.Solve
public import proofs.«01_k».proof.Proof.Gen.ReferenceIdeal
public import proofs.«01_k».proof.ReferenceIdeal
public import Idealize.ShloMosaic.Lib.Quiescent

@[expose] public section

/-! # The reference's run

The reference is one straight line of host operations, its calls included, and its values are numbered
in the order they are computed. So it runs, keeps its arguments, and ends in contents that satisfy the
equation of every one of its operations. -/

noncomputable section

namespace Cert.Ref

open Idealize.ShloMosaic Idealize.ShloMosaic.StableHlo Idealize.SL.Sem Cert.ReferenceIdeal

variable {F : FTy → Type} [FloatOps F]

/-- The reference is a line of operations that write each value once, in order, the two arguments never. -/
theorem main_ranked : ∃ ops : List (HloOp τ sig (Elt F)), (∀ d, IsSeq (main (F := F) d) ops) ∧ Ranked 2 ops := by
  refine ⟨_, by hlo_seq, ?_⟩
  repeat' first
    | exact Ranked.nil _
    | refine Ranked.cons _ ?_ (writes_nullary ..) ?_
    | refine Ranked.cons _ ?_ (writes_unary _ _ _ _ _ (by decide)) ?_
    | refine Ranked.cons _ ?_ (writes_binary _ _ _ _ _ _ _ (by decide)) ?_
    | refine Ranked.cons _ ?_ (writes_reshape _ _ _ _ _ _ (by decide)) ?_
    | refine Ranked.cons _ ?_ (writes_quaternary _ _ _ _ _ _ _ _ _ _ _ (by decide)) ?_
    | decide

/-- The reference runs; on every device its final contents solve its equations and hold the arguments as
    launched, and no semaphore is left raised. -/
theorem run (m : (ℓ : Loc nD τ sig) → Buf (Elt F) ℓ) (ρ : Dev nD → PrngReg) :
    ∃ W : Dev nD → Valuation τ sig (Elt F),
      (∀ d, Solves (W d) (main (F := F) d)
        ∧ W d (Proc.devRef .tc main_arg0) = m ((d.tc : Thread nD τ).loc main_arg0)
        ∧ W d (Proc.devRef .tc main_arg1) = m ((d.tc : Thread nD τ).loc main_arg1))
      ∧ θ_run (defs (F := F)) (onTc (τ := τ) (main (F := F))) ⟨m, fun _ => 0, ρ⟩ fun r =>
          (∀ (d : Dev nD) (b : Ref sig .tc), r.2.mem ((d.tc : Thread nD τ).loc b) = W d (Proc.devRef .tc b))
          ∧ r.2.sem = fun _ => 0 := by
  obtain ⟨ops, hmain, hops⟩ := main_ranked (F := F)
  refine ⟨fun d => after ops (launchContents m d), fun d => ⟨?_, ?_, ?_⟩, ?_⟩
  · rw [hmain d]; exact solves_seq _ _ (hops.fixed _)
  · exact hops.keeps _ main_arg0 (by decide)
  · exact hops.keeps _ main_arg1 (by decide)
  · exact θ_run_mono (run_hlo defs main hmain (by decide) (by decide) hops.bufs hops.fresh m ρ)
      fun r h => ⟨h, sem_eq_zero_of_no_sems (by decide) _⟩

end Cert.Ref

end
-- ==== Proof.Softmax.lean ====
module

public import proofs.«01_k».proof.Proof.Noise

@[expose] public section

/-! # The probabilities and scores of one row

Both programs turn a row of 100000 numbers into probabilities and take the place of the greatest score, the
logarithm of a probability with Gumbel noise added. -/

noncomputable section

namespace Cert

open Idealize.ShloMosaic

/-- A row of numbers, one per action. -/
abbrev Row := Fin 100000 → EReal

/-- The greatest number of a row. -/
def rowMax (q : Row) : EReal := (Finset.univ : Finset (Fin 100000)).fold max ⊥ q

/-- The exponential of a number less the row's greatest. -/
def weight (q : Row) (c : Fin 100000) : EReal := Ideal.exp (q c - rowMax q)

/-- The softmax of a row. -/
def prob (q : Row) (c : Fin 100000) : EReal := Ideal.div (weight q c) (∑ k, weight q k)

/-- The small number added to a probability before its logarithm is taken. -/
def small : EReal := Ideal.ofBits .f32 0x1E3CE508#32

/-- The score of action `c` in row `r`, of the numbers `q`. -/
def score (r : ℕ) (q : Row) (c : Fin 100000) : EReal := noise r c.val + Ideal.log (prob q c + small)

/-- Minus infinity, as both programs write it. -/
theorem ofBits_bot : (Ideal.ofBits .f32 0xFF800000#32 : EReal) = ⊥ := by simp [Ideal.ofBits, Ideal.ieee]

end Cert

end
-- ==== Proof.Argmax.lean ====
module

public import Idealize.ShloMosaic.PureOps.Ideal
public import Idealize.ShloMosaic.Lib.Pointwise.Index

@[expose] public section

/-! # The first place of the greatest value -/

namespace Cert

open Idealize.ShloMosaic

variable {n : ℕ}

/-- `w` is the word of the first place at which `x` takes its greatest value. -/
def IsArgmax (x : Fin n → EReal) (w : BitVec 32) : Prop :=
  ∃ k : Fin n, w = BitVec.ofNat 32 k.val ∧ (∀ j, x j ≤ x k) ∧ ∀ j, x j = x k → k ≤ j

/-- There is only one such place. -/
theorem IsArgmax.unique {x : Fin n → EReal} {w w' : BitVec 32} (h : IsArgmax x w) (h' : IsArgmax x w') : w = w' := by
  obtain ⟨k, rfl, hk, hk'⟩ := h
  obtain ⟨l, rfl, hl, hl'⟩ := h'
  have e : x k = x l := le_antisymm (hl k) (hk l)
  rw [le_antisymm (hk' l e.symm) (hl' k e)]

/-- Words of small numbers compare, as signed numbers, as the numbers do. -/
theorem slt_ofNat {a b : ℕ} (ha : a < 2 ^ 31) (hb : b < 2 ^ 31) :
    (BitVec.ofNat 32 a).slt (BitVec.ofNat 32 b) = decide (a < b) := by
  have h : ∀ c < 2 ^ 31, (BitVec.ofNat 32 c).toInt = c := fun c hc => by
    rw [BitVec.toInt_eq_toNat_of_lt] <;> rw [BitVec.toNat_ofNat, Nat.mod_eq_of_lt] <;> omega
  rw [BitVec.slt, h a ha, h b hb]
  simp

/-- A fold of an operation that is the smaller of two words of small numbers: the word of the smallest number
    met, the start's included. -/
theorem fold_min_spec {A : Type} (op : BitVec 32 → BitVec 32 → BitVec 32) [Std.Commutative op] [Std.Associative op]
    (hop : ∀ a b, a < 2 ^ 31 → b < 2 ^ 31 → op (BitVec.ofNat 32 a) (BitVec.ofNat 32 b) = BitVec.ofNat 32 (min a b))
    (g : A → ℕ) (hg : ∀ a, g a < 2 ^ 31) (b : ℕ) (hb : b < 2 ^ 31) (s : Finset A) :
    ∃ m, s.fold op (BitVec.ofNat 32 b) (fun a => BitVec.ofNat 32 (g a)) = BitVec.ofNat 32 m ∧ m < 2 ^ 31
      ∧ (∀ a ∈ s, m ≤ g a) ∧ (m = b ∨ ∃ a ∈ s, m = g a) := by
  classical
  induction s using Finset.induction_on with
  | empty => exact ⟨b, rfl, hb, by simp, .inl rfl⟩
  | insert a s ha ih =>
    obtain ⟨m, e, hm, h1, h2⟩ := ih
    refine ⟨min (g a) m, ?_, lt_of_le_of_lt (min_le_right _ _) hm, fun c hc => ?_, ?_⟩
    · rw [Finset.fold_insert ha, e, hop _ _ (hg a) hm]
    · rcases Finset.mem_insert.mp hc with rfl | hc
      · exact min_le_left _ _
      · exact (min_le_right _ _).trans (h1 c hc)
    · rcases le_total (g a) m with h | h
      · exact .inr ⟨a, Finset.mem_insert_self _ _, min_eq_left h⟩
      · rw [min_eq_right h]
        rcases h2 with h2 | ⟨c, hc, h2⟩
        · exact .inl h2
        · exact .inr ⟨c, Finset.mem_insert_of_mem hc, h2⟩

/-- The smallest place among those that attain the greatest value, the others standing at `n`, is the first place
    of the greatest value. -/
theorem isArgmax_of_fold (x : Fin n → EReal) (hn : 0 < n) (hn' : n < 2 ^ 31) (b : ℕ) (hb : b < 2 ^ 31) (hnb : n ≤ b)
    (op : BitVec 32 → BitVec 32 → BitVec 32) [Std.Commutative op] [Std.Associative op]
    (hop : ∀ a b, a < 2 ^ 31 → b < 2 ^ 31 → op (BitVec.ofNat 32 a) (BitVec.ofNat 32 b) = BitVec.ofNat 32 (min a b)) :
    IsArgmax x ((Finset.univ : Finset (Fin n)).fold op (BitVec.ofNat 32 b) fun c =>
      BitVec.ofNat 32 (if x c = (Finset.univ : Finset (Fin n)).fold max ⊥ x then c.val else n)) := by
  haveI : Nonempty (Fin n) := ⟨⟨0, hn⟩⟩
  set M := (Finset.univ : Finset (Fin n)).fold max ⊥ x with hM
  have hsup : M = (Finset.univ : Finset (Fin n)).sup x := rfl
  have hle : ∀ c, x c ≤ M := fun c => hsup ▸ Finset.le_sup (Finset.mem_univ c)
  obtain ⟨t, -, ht⟩ := Finset.exists_mem_eq_sup Finset.univ Finset.univ_nonempty x
  have ht : x t = M := by rw [hsup, ht]
  obtain ⟨m, e, -, h1, h2⟩ := fold_min_spec op hop (fun c : Fin n => if x c = M then c.val else n)
    (fun c => by split <;> omega) b hb Finset.univ
  have hmt : m ≤ t.val := by have := h1 t (Finset.mem_univ _); rwa [if_pos ht] at this
  have hc : ∃ c : Fin n, x c = M ∧ m = c.val := by
    rcases h2 with h2 | ⟨c, -, h2⟩
    · omega
    · split at h2
      · next hc => exact ⟨c, hc, h2⟩
      · omega
  obtain ⟨c, hc, hmc⟩ := hc
  refine ⟨c, by rw [e, hmc], fun j => hc ▸ hle j, fun j hj => Fin.le_def.mpr ?_⟩
  have := h1 j (Finset.mem_univ _)
  rw [if_pos (hj.trans hc)] at this
  omega

end Cert
-- ==== Proof.Ref.Argmax.lean ====
module

public import proofs.«01_k».proof.Proof.Argmax
public import proofs.«01_k».proof.Proof.Ref.Solve
public import proofs.«01_k».proof.ReferenceIdeal
public import Idealize.ShloMosaic.Lib.Pointwise.Reduce

@[expose] public section

/-! # The reference's argmax

The reference folds a row's values and their places, keeping of two pairs the one of the greater value
and, on equal values, of the earlier place. So it ends with the first place of the row's greatest value. -/

noncomputable section

namespace Cert.Ref

open Idealize.ShloMosaic Idealize.ShloMosaic.StableHlo Cert.ReferenceIdeal Cert.ReferenceIdeal.Facts₀

/-- One step of the fold: the pair of the greater value, on equal values the pair of the smaller place. -/
theorem reducer_apply (v x : EReal) (k l : ℕ) (hk : k < 2 ^ 31) (hl : l < 2 ^ 31) :
    reducer_argmax_f32_i32 (F := Ideal) (v, BitVec.ofNat 32 k) (x, BitVec.ofNat 32 l)
      = if x < v ∨ (v = x ∧ k < l) then (v, BitVec.ofNat 32 k) else (x, BitVec.ofNat 32 l) := by
  have h : reducer_argmax_f32_i32 (F := Ideal) (v, BitVec.ofNat 32 k) (x, BitVec.ofNat 32 l)
      = (Scalar.select (BitVec.ofBool (decide (x < v)) ||| BitVec.ofBool (decide (v ≠ v))) v x,
        Scalar.select ((BitVec.ofBool (decide (x < v)) ||| BitVec.ofBool (decide (v ≠ v)))
          ||| (BitVec.ofBool (decide (v = x)) &&& BitVec.ofBool ((BitVec.ofNat 32 k).slt (BitVec.ofNat 32 l))))
          (BitVec.ofNat 32 k) (BitVec.ofNat 32 l)) := rfl
  rw [h, slt_ofNat hk hl]
  by_cases h1 : x < v <;> by_cases h2 : v = x <;> by_cases h3 : k < l <;>
    simp [h1, h2, h3, Scalar.select]

/-- The fold over any list of places: the greatest value met, the start's included, and the first of the
    places that attain it. -/
theorem fold_spec {A : Type} (X : A → EReal) (K : A → ℕ) (hK : ∀ a, K a < 2 ^ 31) (L : List A) (v : EReal) (k : ℕ)
    (hk : k < 2 ^ 31) :
    ∃ (v' : EReal) (k' : ℕ), L.foldl (fun r a => reducer_argmax_f32_i32 (F := Ideal) r (X a, BitVec.ofNat 32 (K a)))
        (v, BitVec.ofNat 32 k) = (v', BitVec.ofNat 32 k')
      ∧ v ≤ v' ∧ (∀ a ∈ L, X a ≤ v') ∧ (v = v' → k' ≤ k) ∧ (∀ a ∈ L, X a = v' → k' ≤ K a)
      ∧ ((v = v' ∧ k = k') ∨ ∃ a ∈ L, X a = v' ∧ K a = k') := by
  induction L generalizing v k with
  | nil => exact ⟨v, k, rfl, le_rfl, by simp, fun _ => le_rfl, by simp, .inl ⟨rfl, rfl⟩⟩
  | cons a L ih =>
    rw [List.foldl_cons, reducer_apply _ _ _ _ hk (hK a)]
    by_cases h : X a < v ∨ (v = X a ∧ k < K a)
    · rw [if_pos h]
      obtain ⟨v', k', e, h1, h2, h3, h4, h5⟩ := ih v k hk
      refine ⟨v', k', e, h1, ?_, h3, ?_, ?_⟩
      · intro b hb
        rcases List.mem_cons.mp hb with rfl | hb
        · rcases h with h | h
          · exact h.le.trans h1
          · exact h.1 ▸ h1
        · exact h2 b hb
      · intro b hb hv
        rcases List.mem_cons.mp hb with rfl | hb
        · rcases h with h | h
          · exact absurd (hv ▸ h1) (not_le.mpr h)
          · exact (h3 (h.1.trans hv)).trans h.2.le
        · exact h4 b hb hv
      · rcases h5 with h5 | ⟨b, hb, h5⟩
        · exact .inl h5
        · exact .inr ⟨b, List.mem_cons_of_mem _ hb, h5⟩
    · rw [if_neg h]
      obtain ⟨v', k', e, h1, h2, h3, h4, h5⟩ := ih (X a) (K a) (hK a)
      push Not at h
      refine ⟨v', k', e, h.1.trans h1, ?_, ?_, ?_, ?_⟩
      · intro b hb
        rcases List.mem_cons.mp hb with rfl | hb
        · exact h1
        · exact h2 b hb
      · intro hv
        have hx : v = X a := le_antisymm h.1 (hv ▸ h1)
        exact (h3 (hx ▸ hv)).trans (h.2 hx)
      · intro b hb hv
        rcases List.mem_cons.mp hb with rfl | hb
        · exact h3 hv
        · exact h4 b hb hv
      · rcases h5 with ⟨hv, hk'⟩ | ⟨b, hb, h5⟩
        · exact .inr ⟨a, List.mem_cons_self, hv, hk'⟩
        · exact .inr ⟨b, List.mem_cons_of_mem _ hb, h5⟩

variable [Facts]

/-- The reference's argmax at a row: the first place of the row's greatest value. -/
theorem argmax_apply (W : Valuation τ sig (Elt Ideal)) (x : TRef sig ⟨S128x100000, .f32⟩) (φ : fn_argmax.Bufs)
    (h : Solves W (fn_argmax.body (F := Ideal) x φ)) (r : Fin 128) :
    IsArgmax (fun c : Fin 100000 => val W x (ix2 r c)) (val W φ.v1_1 (ix1 r)) := by
  simp only [fn_argmax.body, solves_bind, solves_hlo_last, solves_pure, fixed_tnullary, fixed_tquaternary] at h
  obtain ⟨e0, ecst, ec, -, e1, -⟩ := h
  have hb : (Ideal.ofBits .f32 0xFF800000#32 : EReal) = ⊥ := by simp [Ideal.ofBits, Ideal.ieee]
  have hinit : ((constant S_ .f32 0xFF800000#32 : FVec Ideal S_ .f32) (Shape.Idx.first h_S_),
      constantI S_ 32 0#32 (Shape.Idx.first h_S_)) = ((⊥ : EReal), BitVec.ofNat 32 0) := Prod.ext hb rfl
  rw [e1, ecst, ec, e0]
  obtain ⟨v, k, e, -, h2, -, h4, h5⟩ := fold_spec (fun n : Fin S128x100000.numel => val W x (S128x100000.rowMajor.symm n))
    (fun n => (S128x100000.rowMajor.symm n 1).val)
    (fun n => lt_trans (S128x100000.rowMajor.symm n 1).isLt (by decide))
    ((List.finRange S128x100000.numel).filter fun n =>
      reducesTo_S128x100000_S128_d1.drop (S128x100000.rowMajor.symm n) = ix1 r) ⊥ 0 (by decide)
  have hmem : ∀ c : Fin 100000, S128x100000.rowMajor (ix2 r c) ∈ (List.finRange S128x100000.numel).filter fun n =>
      reducesTo_S128x100000_S128_d1.drop (S128x100000.rowMajor.symm n) = ix1 r := fun c => by
    refine List.mem_filter.mpr ⟨List.mem_finRange _, decide_eq_true ?_⟩
    rw [Equiv.symm_apply_apply]
    exact (reducesTo_S128x100000_S128_d1.fiber_r2_a1 _ _).mpr ⟨c, rfl⟩
  have hle : ∀ c : Fin 100000, (val W x (ix2 r c) : EReal) ≤ v := fun c => by
    have := h2 _ (hmem c); rwa [Equiv.symm_apply_apply] at this
  have hfirst : ∀ c : Fin 100000, (val W x (ix2 r c) : EReal) = v → k ≤ c.val := fun c hc => by
    have := h4 _ (hmem c); rw [Equiv.symm_apply_apply] at this; exact this hc
  have hex : ∃ c : Fin 100000, (val W x (ix2 r c) : EReal) = v ∧ c.val = k := by
    rcases h5 with ⟨hv, hk⟩ | ⟨n, hn, hv, hk⟩
    · exact ⟨0, le_antisymm (hle 0) (hv ▸ bot_le), hk⟩
    · obtain ⟨c, hc⟩ := (reducesTo_S128x100000_S128_d1.fiber_r2_a1 _ _).mp (of_decide_eq_true (List.mem_filter.mp hn).2)
      have hc' : ix2 r c = S128x100000.rowMajor.symm n := hc
      rw [← hc'] at hv hk
      exact ⟨c, hv, hk⟩
  obtain ⟨c, hcv, hck⟩ := hex
  refine ⟨c, ?_, fun j => ?_, fun j hj => ?_⟩
  · rw [Ideal.argReduce_eq_reduce2]
    rw [hck]
    refine congrArg Prod.snd (Eq.trans ?_ e)
    rw [← hinit]
    rfl
  · exact (hle j).trans_eq hcv.symm
  · exact Fin.le_def.mpr (hck ▸ hfirst j (hj.trans hcv))

end Cert.Ref

end
-- ==== Proof.Ref.Threefry.lean ====
module

public import proofs.«01_k».proof.Proof.Threefry
public import proofs.«01_k».proof.Proof.Ref.Solve
public import proofs.«01_k».proof.ReferenceIdeal

@[expose] public section

/-! # The reference's generator

The reference's generator works on whole arrays, one operation at a time. Every element of its two
results is the generator of `Threefry.lean` on the same element of the two counters. -/

noncomputable section

namespace Cert.Ref

open Idealize.ShloMosaic Idealize.ShloMosaic.StableHlo Cert.ReferenceIdeal Cert.Threefry

variable {s : Shape}

/-- Nine array equations are one mixing step at every index. -/
theorem round {l r : BitVec 32} {X Y X' Y' B B' L R O : IVec s 32} {c c' : IVec S_ 32} {hb hb'} {rest : Prop}
    (h : X' = addi X Y ∧ c = constantI S_ 32 l ∧ B = broadcastInDim s ![] hb c ∧ L = Host.shli Y B
      ∧ c' = constantI S_ 32 r ∧ B' = broadcastInDim s ![] hb' c' ∧ R = Host.shrui Y B' ∧ O = ori L R
      ∧ Y' = xori X' O ∧ rest) : (∀ i, (X' i, Y' i) = mix l r (X i, Y i)) ∧ rest := by
  obtain ⟨rfl, rfl, rfl, rfl, rfl, rfl, rfl, rfl, rfl, h⟩ := h
  refine ⟨fun i => ?_, h⟩
  show (X i + Y i, (X i + Y i) ^^^ (IntOp.shli .host (Y i) l ||| IntOp.shrui .host (Y i) r)) = _
  rw [shli_unit .host .vector, shrui_unit .host .vector]
  rfl

/-- The one index of a scalar. -/
def pt : S_.Idx := fun e => e.elim0

/-- A scalar broadcast to any shape holds the scalar everywhere. -/
theorem broadcast_scalar {α : Type} (a : S_.Idx → α) (h) (i : s.Idx) : broadcastInDim s ![] h a i = a pt :=
  congrArg a (funext fun e => e.elim0)

/-- Seven array equations are one key injection at every index. -/
theorem injection {n : BitVec 32} {X Y X' Y' A B N Z : IVec s 32} {a b c : IVec S_ 32} {ha hb hc} {rest : Prop}
    (h : A = broadcastInDim s ![] ha a ∧ X' = addi X A ∧ B = broadcastInDim s ![] hb b ∧ Z = addi Y B
      ∧ c = constantI S_ 32 n ∧ N = broadcastInDim s ![] hc c ∧ Y' = addi Z N ∧ rest) :
    (∀ i, (X' i, Y' i) = inject (a pt) (b pt) n (X i, Y i)) ∧ rest := by
  obtain ⟨rfl, rfl, rfl, rfl, rfl, rfl, rfl, h⟩ := h
  refine ⟨fun i => ?_, h⟩
  show (X i + broadcastInDim s ![] ha a i, Y i + broadcastInDim s ![] hb b i + n) = _
  rw [broadcast_scalar, broadcast_scalar]
  rfl

variable {F : FTy → Type} [FloatOps F] [Facts]

/-- The reference's generator at an index. -/
theorem threefry_apply (W : Valuation τ sig (Elt F)) (k0 k1 : TRef sig ⟨S_, .i32⟩) (x y : TRef sig ⟨S128x100000, .i32⟩)
    (φ : fn_threefry2x32.Bufs) (h : Solves W (fn_threefry2x32.body (F := F) k0 k1 x y φ)) (i : S128x100000.Idx) :
    (val W φ.v171 i, val W φ.v175 i) = threefry (val W k0 pt) (val W k1 pt) (val W x i, val W y i) := by
  simp only [fn_threefry2x32.body, fn_threefry2x32.body_part0, fn_threefry2x32.body_part1, fn_threefry2x32.body_part2,
    fn_threefry2x32.body_part3, solves_bind, solves_hlo_last, solves_pure, fixed_tnullary, fixed_tunary, fixed_tbinary,
    and_assoc, true_and] at h
  obtain ⟨e0, e1, e2, e3, e4, e5, e6, h⟩ := h
  obtain ⟨m1, h⟩ := round h
  obtain ⟨m2, h⟩ := round h
  obtain ⟨m3, h⟩ := round h
  obtain ⟨m4, h⟩ := round h
  obtain ⟨j1, h⟩ := injection h
  obtain ⟨m5, h⟩ := round h
  obtain ⟨m6, h⟩ := round h
  obtain ⟨m7, h⟩ := round h
  obtain ⟨m8, h⟩ := round h
  obtain ⟨j2, h⟩ := injection h
  obtain ⟨m9, h⟩ := round h
  obtain ⟨m10, h⟩ := round h
  obtain ⟨m11, h⟩ := round h
  obtain ⟨m12, h⟩ := round h
  obtain ⟨j3, h⟩ := injection h
  obtain ⟨m13, h⟩ := round h
  obtain ⟨m14, h⟩ := round h
  obtain ⟨m15, h⟩ := round h
  obtain ⟨m16, h⟩ := round h
  obtain ⟨j4, h⟩ := injection h
  obtain ⟨m17, h⟩ := round h
  obtain ⟨m18, h⟩ := round h
  obtain ⟨m19, h⟩ := round h
  obtain ⟨m20, h⟩ := round h
  obtain ⟨j5, h⟩ := injection h
  clear h
  have e : (val W φ.v3 i, val W φ.v5 i) = (val W x i + val W k0 pt, val W y i + val W k1 pt) := by
    rw [e4, e6, e3, e5, addi, addi, broadcast_scalar, broadcast_scalar]
    rfl
  have e2' : val W φ.v1 pt = val W k0 pt ^^^ val W k1 pt ^^^ 466688986#32 := by
    rw [e2, e0, e1]; rfl
  rw [j5, m20, m19, m18, m17, j4, m16, m15, m14, m13, j3, m12, m11, m10, m9, j2, m8, m7, m6, m5, j1, m4, m3, m2, m1, e, e2']
  rfl

end Cert.Ref

end
-- ==== Proof.Ref.Noise.lean ====
module

public import proofs.«01_k».proof.Proof.Noise
public import proofs.«01_k».proof.Proof.Ref.Threefry
public import Idealize.ShloMosaic.Lib.Pointwise.Index

@[expose] public section

/-! # The reference's noise

Every element of the reference's noise array is the noise of its row and action. -/

noncomputable section

namespace Cert.Ref

open Idealize.ShloMosaic Idealize.ShloMosaic.StableHlo Cert.ReferenceIdeal Cert.Threefry

variable [Facts]

/-- A key array's words, as the reference takes them out: a slice of length one made a scalar. -/
theorem key_word {α : Type} (x : S2.Idx → α) (o : Fin 1 → ℕ) (hs : S2.Slices o S1) (hc : S1.ShapeCasts S_) (k : S2.Idx)
    (hk : (k 0).val = o 0) : shapeCast S_ (extractStridedSlice S1 o x hs) hc pt = x k := by
  refine congrArg x (funext fun a => ?_)
  obtain rfl : a = 0 := Subsingleton.elim (α := Fin 1) _ _
  refine Fin.ext ?_
  rw [hk]
  exact congrArg (o 0 + ·) (Nat.lt_one_iff.mp (Fin.isLt _))

/-- The position of one of the 128 rows' elements, computed with 64 bits, is exact. -/
theorem position_toNat (r c : ℕ) (hr : r < 128) (hc : c < 100000) :
    (100000#64 * BitVec.ofNat 64 r + 1#64 * BitVec.ofNat 64 c).toNat = r * 100000 + c := by
  have h1 : r % 2 ^ 64 = r := Nat.mod_eq_of_lt (by omega)
  have h2 : c % 2 ^ 64 = c := Nat.mod_eq_of_lt (by omega)
  have h3 : 100000 % 2 ^ 64 * r % 2 ^ 64 = r * 100000 := by omega
  have h4 : 1 % 2 ^ 64 * c % 2 ^ 64 = c := by omega
  simp only [BitVec.toNat_add, BitVec.toNat_mul, BitVec.toNat_ofNat, h1, h2, h3, h4]
  omega

/-- The low half of a 64-bit position. -/
theorem position_low (r c : ℕ) (hr : r < 128) (hc : c < 100000) :
    (100000#64 * BitVec.ofNat 64 r + 1#64 * BitVec.ofNat 64 c).setWidth 32 = BitVec.ofNat 32 (r * 100000 + c) := by
  apply BitVec.eq_of_toNat_eq
  rw [BitVec.toNat_setWidth, position_toNat r c hr hc, BitVec.toNat_ofNat]

/-- The high half of such a position is zero. -/
theorem position_high (r c : ℕ) (hr : r < 128) (hc : c < 100000) :
    (IntOp.shrui .host (100000#64 * BitVec.ofNat 64 r + 1#64 * BitVec.ofNat 64 c) 32#64).setWidth 32 = 0#32 := by
  have h : IntOp.shrui .host (100000#64 * BitVec.ofNat 64 r + 1#64 * BitVec.ofNat 64 c) 32#64
      = (100000#64 * BitVec.ofNat 64 r + 1#64 * BitVec.ofNat 64 c) >>> 32 := rfl
  rw [h]
  apply BitVec.eq_of_toNat_eq
  rw [BitVec.toNat_setWidth, BitVec.toNat_ushiftRight, position_toNat r c hr hc, Nat.shiftRight_eq_div_pow,
    Nat.div_eq_of_lt (by omega)]
  rfl

/-- The reference's uniform numbers at an index, between one and `tiny`. -/
theorem uniform_apply (W : Valuation τ sig (Elt Ideal)) (key : TRef sig ⟨S2, .i32⟩) (hi lo : TRef sig ⟨S_, .f32⟩)
    (φ : fn_uniform.Bufs) (h : Solves W (fn_uniform.body (F := Ideal) key hi lo φ)) (hhi : val W hi pt = one)
    (hlo : val W lo pt = tiny) (i : S128x100000.Idx) :
    val W φ.v33 i = uniform (bits (val W key (ix1 0)) (val W key (ix1 1)) (counter (i 0).val (i 1).val)) := by
  simp only [fn_uniform.body, solves_bind, solves_hlo_last, solves_pure, fixed_tnullary, fixed_tunary, fixed_tbinary,
    fixed_treshape] at h
  obtain ⟨e0, e1, e2, e3, e4, e5, e6, e7, e8, ec, e9, e10, ec0, e11, e12, e13, ec1, e14, e15, e16, e17, hT, e19, ec2, e20, e21,
    ec3, e22, e23, e24, ecst, e25, e26, e27, e28, e29, e30, e31, e32, e33, -⟩ := h
  have k0 : val W φ.v4 pt = val W key (ix1 0) := by rw [e4, e3]; exact key_word _ _ _ _ _ rfl
  have k1 : val W φ.v6 pt = val W key (ix1 1) := by rw [e6, e5]; exact key_word _ _ _ _ _ rfl
  have p13 : val W φ.v13 i = 100000#64 * BitVec.ofNat 64 (i 0).val + 1#64 * BitVec.ofNat 64 (i 1).val := by
    rw [e13, e10, e12, e9, e11, ec, ec0, e7, e8]; rfl
  have p16 : val W φ.v16 i = BitVec.ofNat 32 ((i 0).val * 100000 + (i 1).val) := by
    rw [e16, ← position_low (i 0).val (i 1).val (i 0).isLt (i 1).isLt, ← p13]; rfl
  have p17 : val W φ.v17 i = 0#32 := by
    rw [e17, ← position_high (i 0).val (i 1).val (i 0).isLt (i 1).isLt, ← p13, e15, e14, ec1]; rfl
  have t := threefry_apply W _ _ _ _ _ hT i
  rw [k0, k1, p16, p17] at t
  have b : val W φ.v19 i = bits (val W key (ix1 0)) (val W key (ix1 1)) (counter (i 0).val (i 1).val) := by
    rw [e19, bits, counter, ← t]; rfl
  have v1 : ∀ j, val W φ.v1 j = tiny := fun j => by rw [e1, ← hlo]; exact broadcast_scalar ..
  have v2 : ∀ j, val W φ.v2 j = one := fun j => by rw [e2, e0, ← hhi]; exact broadcast_scalar ..
  have v32 : val W φ.v32 i = tiny := by rw [e32]; exact v1 _
  have v30 : val W φ.v30 i = tiny := by rw [e30]; exact v1 _
  have v28 : val W φ.v28 i = one - tiny := by
    rw [e28, e27]; exact congrArg₂ (fun x y : EReal => x - y) (v2 _) (v1 _)
  have v26 : val W φ.v26 i = Ideal.ofBits .f32 (IntOp.shrui .host (val W φ.v19 i) 9#32 ||| 1065353216#32) - one := by
    rw [e26, e25, ecst, e24, e23, e22, ec3, e21, e20, ec2]; rfl
  have v33 : val W φ.v33 i = max (val W φ.v32 i : EReal) ((val W φ.v26 i : EReal) * (val W φ.v28 i : EReal) + (val W φ.v30 i : EReal)) := by
    rw [e33, e31, e29]; rfl
  rw [v33, v32, v30, v28, v26, b, shrui_unit .host .vector, max_comm]
  rfl

/-- The reference's noise at an index. -/
theorem gumbel_apply (W : Valuation τ sig (Elt Ideal)) (key : TRef sig ⟨S2, .i32⟩) (φ : fn_gumbel.Bufs)
    (h : Solves W (fn_gumbel.body (F := Ideal) key φ)) (i : S128x100000.Idx) :
    val W φ.v4 i = gumbel (bits (val W key (ix1 0)) (val W key (ix1 1)) (counter (i 0).val (i 1).val)) := by
  simp only [fn_gumbel.body, solves_bind, solves_hlo_last, solves_pure, fixed_tnullary, fixed_tunary] at h
  obtain ⟨ec, ec0, hU, e1, e2, e3, e4, -⟩ := h
  have u := uniform_apply W key _ _ _ hU (by rw [ec]; rfl) (by rw [ec0]; rfl) i
  rw [e4, e3, e2, e1, gumbel, ← u]
  rfl

end Cert.Ref

end
-- ==== Proof.Ref.Value.lean ====
module

public import proofs.«01_k».proof.Proof.Softmax
public import proofs.«01_k».proof.Proof.Ref.Argmax
public import proofs.«01_k».proof.Proof.Ref.Noise
public import Idealize.ShloMosaic.Lib.Pipeline.Value

@[expose] public section

/-! # What the reference computes

With every action allowed, the reference's masked numbers are the numbers themselves; so its probabilities
are the softmax of each row and its action is the first place of the row's greatest score. -/

noncomputable section

namespace Cert.Ref

open Idealize.ShloMosaic Idealize.ShloMosaic.StableHlo Cert.ReferenceIdeal Cert.ReferenceIdeal.Facts₀

/-- Masking by ones changes nothing. -/
theorem masked (q b : EReal) : one * (q * one) + (one - one) * b = q := by
  have h : one = ((1 : ℝ) : EReal) := by
    simp [one, Ideal.ofBits, Ideal.ieee]
    rw [← EReal.coe_mul]
    norm_num
  have h0 : one - one = 0 := by rw [h, ← EReal.coe_sub]; simp
  rw [h0, h, EReal.coe_one, mul_one, one_mul, zero_mul, add_zero]

/-- The key's first word: the number 42 has no bits above the lowest thirty-two. -/
theorem key_high : IntOp.shrui .host 42#32 32#32 = 0#32 := by decide

variable [Facts]

/-- The reference's maximum along a row. -/
theorem max_apply (x : FVec Ideal S128x100000 .f32) (r : Fin 128) :
    Host.reduce FloatOps.maximumf x (constant S_ .f32 0xFF800000#32) reducesTo_S128x100000_S128_d1 h_S_ (ix1 r)
      = rowMax fun c => x (ix2 r c) := by
  have e := Host.reduce_eq_fold (FloatOps.maximumf (F := Ideal) (φ := .f32)) x (constant S_ .f32 0xFF800000#32)
    reducesTo_S128x100000_S128_d1 h_S_ (ix1 r)
  rw [e, rowMax, ← ofBits_bot]
  exact reducesTo_S128x100000_S128_d1.fold_fiber_r2_a1 (ix1 r) (max : EReal → EReal → EReal) _ x

/-- The reference's sum along a row. -/
theorem sum_apply (x : FVec Ideal S128x100000 .f32) (r : Fin 128) :
    Host.reduceAdd x (constant S_ .f32 0x00000000#32) reducesTo_S128x100000_S128_d1 h_S_ (ix1 r)
      = ∑ c : Fin 100000, (x (ix2 r c) : EReal) := by
  refine (Ideal.hostReduceAdd_r2_a1 reducesTo_S128x100000_S128_d1 x _ (ix1 r)).trans ?_
  refine (congrArg (· + _) Ideal.ofBits_zero_f32).trans (zero_add _)

/-- The reference's results at row `r`, its first argument holding the row `q` and its mask ones there. -/
theorem value (W : Valuation τ sig (Elt Ideal)) (d : Dev nD) (h : Solves W (main (F := Ideal) d))
    (hm : ∀ i : S128x100000.Idx, val W (.of main_arg1 : TRef sig ⟨S128x100000, .f32⟩) i = one) (r : Fin 128) :
    (∀ c : Fin 100000, val W (.of main_v18 : TRef sig ⟨S128x100000, .f32⟩) (ix2 r c)
        = prob (fun k => val W (.of main_arg0 : TRef sig ⟨S128x100000, .f32⟩) (ix2 r k)) c)
      ∧ IsArgmax (score r.val fun k => val W (.of main_arg0 : TRef sig ⟨S128x100000, .f32⟩) (ix2 r k))
        (val W (.of main_v32 : TRef sig ⟨S128x1, .i32⟩) (ix2 r 0)) := by
  simp only [main, solves_bind, solves_hlo_last, solves_pure, fixed_nullary, fixed_unary, fixed_binary] at h
  obtain ⟨ecst, e0, e1, e2, ecst0, e3, e4, ecst1, e5, e6, e7, ecst2, e8, ecst3, e9, e10, e11, e12, e13, e14, ecst4, e15, e16, e17,
    e18, ec, ec5, e19, e20, e21, ec6, e22, e23, e24, e25, ecst7, e26, e27, e28, hG, e30, hA, e32, -⟩ := h
  set q : Row := fun k => val W (.of main_arg0 : TRef sig ⟨S128x100000, .f32⟩) (ix2 r k)
  -- the masked numbers
  have v7 : ∀ i, val W (.of main_v7 : TRef sig ⟨S128x100000, .f32⟩) i = val W (.of main_arg0 : TRef sig ⟨S128x100000, .f32⟩) i :=
    fun i => by
      refine Eq.trans ?_ (masked _ (Ideal.ofBits .f32 0xD01502F9#32))
      refine Eq.trans (congrFun e7 i) ?_
      rw [e2, e1, e0, ecst, e6, e5, ecst1, e4, e3, ecst0]
      exact congrArg₂ (fun x y : EReal => x * (val W (.of main_arg0 : TRef sig ⟨S128x100000, .f32⟩) i * one)
        + (one - y) * Ideal.ofBits .f32 0xD01502F9#32) (hm i) (hm i)
  -- the probabilities
  have v8 : val W (.of main_v8 : TRef sig ⟨S128, .f32⟩) (ix1 r) = rowMax q := by
    refine (congrFun e8 _).trans ?_
    rw [ecst2]
    refine (max_apply _ r).trans ?_
    exact congrArg rowMax (funext fun c => v7 (ix2 r c))
  have v12 : ∀ c : Fin 100000, val W (.of main_v12 : TRef sig ⟨S128x100000, .f32⟩) (ix2 r c) = rowMax q := fun c => by
    have e : val W (.of main_v12 : TRef sig ⟨S128x100000, .f32⟩) (ix2 r c)
        = max (Ideal.ofBits .f32 0xFF800000#32) (val W (.of main_v8 : TRef sig ⟨S128, .f32⟩) (ix1 r) : EReal) := by
      refine (congrFun e12 _).trans ?_
      rw [e11, e10, e9, ecst3]
      exact congrArg (fun i => max (Ideal.ofBits .f32 0xFF800000#32) (val W (.of main_v8 : TRef sig ⟨S128, .f32⟩) i : EReal))
        (funext fun b => by obtain rfl : b = 0 := Subsingleton.elim _ _; rfl)
    rw [e, v8, ofBits_bot]
    exact max_eq_right bot_le
  have v14 : ∀ c : Fin 100000, val W (.of main_v14 : TRef sig ⟨S128x100000, .f32⟩) (ix2 r c) = weight q c := fun c => by
    refine (congrFun e14 _).trans ?_
    rw [e13]
    exact congrArg₂ (fun x y : EReal => Ideal.exp (x - y)) (v7 _) (v12 c)
  have v17 : ∀ c : Fin 100000, val W (.of main_v17 : TRef sig ⟨S128x100000, .f32⟩) (ix2 r c) = ∑ k, weight q k := fun c => by
    have e : val W (.of main_v17 : TRef sig ⟨S128x100000, .f32⟩) (ix2 r c) = val W (.of main_v15 : TRef sig ⟨S128, .f32⟩) (ix1 r) := by
      refine (congrFun e17 _).trans ?_
      rw [e16]
      exact congrArg (fun i => val W (.of main_v15 : TRef sig ⟨S128, .f32⟩) i)
        (funext fun b => by obtain rfl : b = 0 := Subsingleton.elim _ _; rfl)
    rw [e]
    refine (congrFun e15 _).trans ?_
    rw [ecst4]
    exact (sum_apply _ r).trans (Finset.sum_congr rfl fun k _ => v14 k)
  have v18 : ∀ c : Fin 100000, val W (.of main_v18 : TRef sig ⟨S128x100000, .f32⟩) (ix2 r c) = prob q c := fun c =>
    (congrFun e18 _).trans (congrArg₂ Ideal.div (v14 c) (v17 c))
  refine ⟨v18, ?_⟩
  -- the key
  have key0 : val W (.of main_v25 : TRef sig ⟨S2, .i32⟩) (ix1 0) = 0#32 := by
    refine (congrFun e25 _).trans ((concatenate_pair_apply_left (s₁ := S1) (s₂ := S1) (t := S2) 0 _ _ _ _ rfl (ix1 0) fun b => by
      obtain rfl : b = 0 := Subsingleton.elim (α := Fin 1) _ _; rfl).trans ?_)
    rw [e21, e20, e19, ec, ec5]
    exact key_high
  have key1 : val W (.of main_v25 : TRef sig ⟨S2, .i32⟩) (ix1 1) = 42#32 := by
    refine (congrFun e25 _).trans ((concatenate_pair_apply_right (s₁ := S1) (s₂ := S1) (t := S2) 0 _ _ _ _ rfl rfl (ix1 0)
      (fun b hb => absurd (Subsingleton.elim (α := Fin 1) _ _) hb) rfl).trans ?_)
    rw [e24, e23, e22, ec, ec6]
    exact (by decide : 42#32 &&& 4294967295#32 = 42#32)
  -- the scores
  have v29 : ∀ c : Fin 100000, val W (.of main_v29 : TRef sig ⟨S128x100000, .f32⟩) (ix2 r c) = noise r.val c.val := fun c => by
    refine (gumbel_apply W (.of main_v25) main_call0 hG (ix2 r c)).trans ?_
    rw [key0, key1]; rfl
  have v28 : ∀ c : Fin 100000, val W (.of main_v28 : TRef sig ⟨S128x100000, .f32⟩) (ix2 r c) = Ideal.log (prob q c + small) :=
    fun c => by
      refine (congrFun e28 _).trans ?_
      rw [e27, e26, ecst7]
      exact congrArg (fun x : EReal => Ideal.log (x + small)) (v18 c)
  have v30 : ∀ c : Fin 100000, val W (.of main_v30 : TRef sig ⟨S128x100000, .f32⟩) (ix2 r c) = score r.val q c := fun c =>
    (congrFun e30 _).trans (congrArg₂ (fun x y : EReal => x + y) (v29 c) (v28 c))
  have v32 : val W (.of main_v32 : TRef sig ⟨S128x1, .i32⟩) (ix2 r 0) = val W (.of main_v31 : TRef sig ⟨S128, .i32⟩) (ix1 r) :=
    (congrFun e32 _).trans (congrArg (fun i => val W (.of main_v31 : TRef sig ⟨S128, .i32⟩) i)
      (funext fun b => by obtain rfl : b = 0 := Subsingleton.elim _ _; rfl))
  rw [v32, ← funext v30]
  exact argmax_apply W (.of main_v30) main_call1 hA r

end Cert.Ref

end
-- ==== Proof.Kernel.Bits.lean ====
module

public import proofs.«01_k».proof.Proof.Noise
public import proofs.«01_k».proof.Proof.Gen.KernelIdeal.Frame
public import Idealize.ShloMosaic.Lib.Pipeline.Value
public import Idealize.ShloMosaic.Lib.Pointwise.Index

@[expose] public section

/-! # The kernel's random bits

The kernel writes the generator out step by step, in vectors over a block, with the key words folded into
the constants it adds. At each element these steps are the generator on that element's counter. -/

noncomputable section

namespace Cert.Kern

open Idealize.ShloMosaic Cert.KernelIdeal Cert.KernelIdeal.Gen Cert.Threefry

/-- The second word rotated left. -/
def rot (l r b : BitVec 32) : BitVec 32 := IntOp.shli .vector b l ||| IntOp.shrui .vector b r

/-- A mixing step from its two results: the sum, and the rotated word with the sum xored into it. -/
theorem mix_of (l r a b c d : BitVec 32) (hc : c = a + b) (hd : d = rot l r b ^^^ c) : mix l r (a, b) = (c, d) := by
  subst hc
  rw [hd, mix, rot, BitVec.xor_comm]

/-- The counter word of row `8 * i + r` of the array, row `r` of block `i`, and action `c`, with the key's
    second word added. -/
theorem start_apply (i : grid0.Coords) (j : S8x100000.Idx) :
    k0_pay2 i j = BitVec.ofNat 32 ((8 * (i 0).val + (j 0).val) * 100000 + (j 1).val) + 42#32 := by
  have h : k0_pay2 i j = (BitVec.ofNat 32 (i 0).val * 8#32 + iota .tc S8x100000 32 [0] iota_S8x100000_d0_w32 j) * 100000#32
      + iota .tc S8x100000 32 [1] iota_S8x100000_d1_w32 j + 42#32 := rfl
  rw [h, iota_single_apply, iota_single_apply, BitVec.ofNat_add, BitVec.ofNat_mul, BitVec.ofNat_add, BitVec.ofNat_mul,
    BitVec.mul_comm 8#32]

/-- The first two steps. -/
theorem steps1 (i : grid0.Coords) (j : S8x100000.Idx) :
    mix 15#32 17#32 (mix 13#32 19#32 (0#32 + 0#32, k0_pay2 i j)) = (k0_pay5 i j, k0_pay6 i j) := by
  rw [mix_of 13#32 19#32 (0#32 + 0#32) (k0_pay2 i j) (k0_pay3 i j) (k0_pay4 i j) rfl rfl]
  exact mix_of _ _ _ _ _ _ rfl rfl

section
variable (v37 v38 v40 : IVec S8x100000 32) (j : S8x100000.Idx)

/-- The next six steps, the first key injection among them, from the words the first two leave. -/
theorem steps2 (a : BitVec 32) (h38 : v38 j = a + v37 j) (h40 : v40 j = IntOp.shli .vector (v37 j) 26#32) :
    groupB (inject 42#32 466689008#32 1#32 (mix 6#32 26#32 (mix 26#32 6#32 (a, v37 j))))
      = (k0_pay18 v37 v38 v40 6#32 j, k0_pay19 v37 v38 v40 6#32 j) := by
  rw [mix_of 26#32 6#32 _ _ (v38 j) (k0_pay9 v37 v38 v40 6#32 j) h38 (by rw [rot, ← h40]; rfl),
    mix_of 6#32 26#32 _ _ (k0_pay10 v37 v38 v40 6#32 j) (rot 6#32 26#32 (k0_pay9 v37 v38 v40 6#32 j) ^^^ k0_pay10 v37 v38 v40 6#32 j) rfl rfl]
  have e : inject 42#32 466689008#32 1#32 (k0_pay10 v37 v38 v40 6#32 j,
      rot 6#32 26#32 (k0_pay9 v37 v38 v40 6#32 j) ^^^ k0_pay10 v37 v38 v40 6#32 j)
      = (k0_pay10 v37 v38 v40 6#32 j + 42#32, k0_pay11 v37 v38 v40 6#32 j) :=
    Prod.ext rfl (BitVec.add_assoc _ _ _)
  rw [e, groupB, mix_of 17#32 15#32 (k0_pay10 v37 v38 v40 6#32 j + 42#32) _ (k0_pay12 v37 v38 v40 6#32 j) (k0_pay13 v37 v38 v40 6#32 j) rfl rfl,
    mix_of 29#32 3#32 _ _ (k0_pay14 v37 v38 v40 6#32 j) (k0_pay15 v37 v38 v40 6#32 j) rfl rfl,
    mix_of 16#32 16#32 _ _ (k0_pay16 v37 v38 v40 6#32 j) (k0_pay17 v37 v38 v40 6#32 j) rfl rfl]
  exact mix_of _ _ _ _ _ _ rfl rfl

end

section
variable (v83 v85 v86 : IVec S8x100000 32) (j : S8x100000.Idx)

/-- The third group, the third injection and one step more. -/
theorem steps3 :
    mix 17#32 15#32 (inject 0#32 42#32 3#32 (groupA (v85 j, v83 j + v86 j)))
      = (k0_pay31 v83 v85 v86 j, k0_pay32 v83 v85 v86 j) := by
  rw [groupA, mix_of 13#32 19#32 (v85 j) (v83 j + v86 j) (k0_pay23 v83 v85 v86 j) (k0_pay24 v83 v85 v86 j) rfl rfl,
    mix_of 15#32 17#32 _ _ (k0_pay25 v83 v85 v86 j) (k0_pay26 v83 v85 v86 j) rfl rfl,
    mix_of 26#32 6#32 _ _ (k0_pay27 v83 v85 v86 j) (k0_pay28 v83 v85 v86 j) rfl rfl,
    mix_of 6#32 26#32 _ _ (k0_pay29 v83 v85 v86 j) (rot 6#32 26#32 (k0_pay28 v83 v85 v86 j) ^^^ k0_pay29 v83 v85 v86 j) rfl rfl]
  have e : inject 0#32 42#32 3#32 (k0_pay29 v83 v85 v86 j, rot 6#32 26#32 (k0_pay28 v83 v85 v86 j) ^^^ k0_pay29 v83 v85 v86 j)
      = (k0_pay29 v83 v85 v86 j + 0#32, k0_pay30 v83 v85 v86 j) := Prod.ext rfl (BitVec.add_assoc _ _ _)
  rw [e]
  exact mix_of _ _ _ _ _ _ rfl rfl

end

section
variable (v127 v132 : IVec S8x100000 32) (j : S8x100000.Idx)

/-- The rest of the fourth group, the fourth injection and the fifth group. -/
theorem steps4 (a b : BitVec 32) (h127 : v127 j = a + b) (h132 : v132 j = rot 29#32 3#32 b) :
    groupA (inject 42#32 466689008#32 4#32 (mix 24#32 8#32 (mix 16#32 16#32 (mix 29#32 3#32 (a, b)))))
      = (k0_pay46 v127 v132 j, k0_pay47 v127 v132 j ^^^ k0_pay46 v127 v132 j) := by
  rw [mix_of 29#32 3#32 _ _ (v127 j) (k0_pay35 v127 v132 j) h127 (by rw [← h132]; rfl),
    mix_of 16#32 16#32 _ _ (k0_pay36 v127 v132 j) (k0_pay37 v127 v132 j) rfl rfl,
    mix_of 24#32 8#32 _ _ (k0_pay38 v127 v132 j) (rot 24#32 8#32 (k0_pay37 v127 v132 j) ^^^ k0_pay38 v127 v132 j) rfl rfl]
  have e : inject 42#32 466689008#32 4#32 (k0_pay38 v127 v132 j, rot 24#32 8#32 (k0_pay37 v127 v132 j) ^^^ k0_pay38 v127 v132 j)
      = (k0_pay38 v127 v132 j + 42#32, k0_pay39 v127 v132 j) := Prod.ext rfl (BitVec.add_assoc _ _ _)
  rw [e, groupA, mix_of 13#32 19#32 (k0_pay38 v127 v132 j + 42#32) _ (k0_pay40 v127 v132 j) (k0_pay41 v127 v132 j) rfl rfl,
    mix_of 15#32 17#32 _ _ (k0_pay42 v127 v132 j) (k0_pay43 v127 v132 j) rfl rfl,
    mix_of 26#32 6#32 _ _ (k0_pay44 v127 v132 j) (k0_pay45 v127 v132 j) rfl rfl]
  exact mix_of _ _ _ _ _ _ rfl rfl

end

variable {F : FTy → Type} [FloatOps F]

/-- The word of random bits the kernel draws at an element: the generator's on the element's counter. -/
theorem word_apply (i : grid0.Coords) (x : Vec F S8x100000 .f32) (j : S8x100000.Idx) :
    (k0_pay46 (k0_pay55 i x) (k0_pay56 i x) j + 466689008#32)
        ^^^ ((k0_pay47 (k0_pay55 i x) (k0_pay56 i x) j ^^^ k0_pay46 (k0_pay55 i x) (k0_pay56 i x) j) + 5#32)
      = bits 0#32 42#32 (counter (8 * (i 0).val + (j 0).val) (j 1).val) := by
  have hk : (0#32 ^^^ 42#32) ^^^ 466688986#32 = 466689008#32 := by decide
  have e2 : groupB (inject 42#32 466689008#32 1#32 (groupA (0#32 + 0#32, k0_pay2 i j)))
      = (k0_pay18 (k0_pay49 i x) (k0_pay50 i x) (k0_pay51 i x) 6#32 j, k0_pay52 i x j) := by
    rw [groupA, steps1]
    exact steps2 (k0_pay49 i x) (k0_pay50 i x) (k0_pay51 i x) j _ rfl rfl
  have e3 : inject 466689008#32 0#32 2#32 (k0_pay18 (k0_pay49 i x) (k0_pay50 i x) (k0_pay51 i x) 6#32 j, k0_pay52 i x j)
      = (k0_pay53 i x j, k0_pay52 i x j + k0_pay54 i x j) :=
    Prod.ext rfl (congrArg (· + 2#32) (BitVec.add_zero _))
  have e4 : groupB (inject 0#32 42#32 3#32 (groupA (k0_pay53 i x j, k0_pay52 i x j + k0_pay54 i x j)))
      = mix 24#32 8#32 (mix 16#32 16#32 (mix 29#32 3#32 (k0_pay31 (k0_pay52 i x) (k0_pay53 i x) (k0_pay54 i x) j,
        k0_pay32 (k0_pay52 i x) (k0_pay53 i x) (k0_pay54 i x) j))) := by
    rw [groupB, steps3 (k0_pay52 i x) (k0_pay53 i x) (k0_pay54 i x) j]
  have e : threefry 0#32 42#32 (counter (8 * (i 0).val + (j 0).val) (j 1).val)
      = inject 466689008#32 0#32 5#32 (k0_pay46 (k0_pay55 i x) (k0_pay56 i x) j,
        k0_pay47 (k0_pay55 i x) (k0_pay56 i x) j ^^^ k0_pay46 (k0_pay55 i x) (k0_pay56 i x) j) := by
    rw [threefry, hk, counter]
    dsimp only
    rw [← start_apply, e2, e3, e4, steps4 (k0_pay55 i x) (k0_pay56 i x) j _ _ rfl rfl]
  rw [bits, e, inject, BitVec.add_zero]

end Cert.Kern

end
-- ==== Proof.Kernel.Rows.lean ====
module

public import proofs.«01_k».proof.Proof.Argmax
public import proofs.«01_k».proof.Proof.Softmax
public import proofs.«01_k».proof.Proof.Gen.KernelIdeal.Frame
public import Idealize.ShloMosaic.Lib.Pipeline.Value
public import Idealize.ShloMosaic.Lib.Pointwise.Reduce

@[expose] public section

/-! # What the kernel computes of one row of a block

The probabilities it stores are the row's softmax, and the place it stores is the first at which the sum of a
logarithm and the noise is greatest. -/

noncomputable section

namespace Cert.Kern

open Idealize.ShloMosaic Cert.KernelIdeal Cert.KernelIdeal.Gen

section
variable {α : Type}

/-- A column of eight read back from its two-dimensional form. -/
theorem column_apply (v : S8.Idx → α) (r : Fin 8) : shapeCast S8x1 v shapeCasts_S8_S8x1 (ix2 r 0) = v (ix1 r) := by
  refine shapeCast_apply v _ _ _ ?_
  revert r
  decide

/-- A column of eight spread along the rows. -/
theorem spread_apply (v : S8x1.Idx → α) (r : Fin 8) (c : Fin 100000) :
    broadcastTo S8x100000 v broadcasts_S8x1_S8x100000 (ix2 r c) = v (ix2 r 0) := by
  refine broadcastTo_apply v _ _ _ fun a => ?_
  match a with
  | ⟨0, _⟩ => rfl
  | ⟨1, _⟩ => rfl

/-- A value of each row, spread along the rows. -/
theorem rowwise_apply (v : S8.Idx → α) (r : Fin 8) (c : Fin 100000) :
    broadcastTo S8x100000 (shapeCast S8x1 v shapeCasts_S8_S8x1) broadcasts_S8x1_S8x100000 (ix2 r c) = v (ix1 r) :=
  (spread_apply _ r c).trans (column_apply v r)

end

/-- The kernel's maximum along a row. -/
theorem max_apply (x : FVec Ideal S8x100000 .f32) (r : Fin 8) :
    multiReduction .maximumf [1] S8 x 0xFF800000#32 reduces_S8x100000_S8 (.inl rfl) rfl (ix1 r) = rowMax fun c => x (ix2 r c) := by
  refine (multiReduction_maximumf_eq_fold (F := Ideal) x _ _ _ _ (ix1 r)).trans ?_
  rw [rowMax, ← ofBits_bot]
  exact (reduces_S8x100000_S8).fold_fiber_r2_a1 (ix1 r) (max : EReal → EReal → EReal) _ x

/-- The kernel's sum along a row. -/
theorem sum_apply (x : FVec Ideal S8x100000 .f32) (r : Fin 8) :
    multiReduction .add [1] S8 x 0x00000000#32 reduces_S8x100000_S8 (.inl rfl) rfl (ix1 r) = ∑ c : Fin 100000, (x (ix2 r c) : EReal) :=
  (multiReduction_add_apply (F := Ideal) x _ _ _ _ (ix1 r)).trans (Ideal.reduceAdd_r2_a1 reduces_S8x100000_S8 x (ix1 r))

/-- The probabilities the kernel stores. -/
theorem prob_apply (x : FVec Ideal S8x100000 .f32) (r : Fin 8) (c : Fin 100000) :
    k0_pay1 (F := Ideal) x (ix2 r c) = prob (fun k => x (ix2 r k)) c := by
  obtain ⟨w, e, hw⟩ : ∃ w : FVec Ideal S8x100000 .f32, k0_pay1 (F := Ideal) x = divf w (broadcastTo S8x100000 (shapeCast S8x1
      (multiReduction .add [1] S8 w 0x00000000#32 reduces_S8x100000_S8 (.inl rfl) rfl) shapeCasts_S8_S8x1) broadcasts_S8x1_S8x100000)
      ∧ ∀ k : Fin 100000, w (ix2 r k) = weight (fun k => x (ix2 r k)) k := by
    refine ⟨_, rfl, fun k => ?_⟩
    exact congrArg (fun y : EReal => Ideal.exp ((x (ix2 r k) : EReal) - y)) ((rowwise_apply _ r k).trans (max_apply x r))
  have hs := (rowwise_apply (multiReduction .add [1] S8 w 0x00000000#32 reduces_S8x100000_S8 (.inl rfl) rfl) r c).trans
    ((sum_apply w r).trans (Finset.sum_congr rfl fun k _ => hw k))
  rw [e, prob, ← hw c, ← hs]
  generalize broadcastTo S8x100000 _ _ = y
  rfl

/-- The smaller of two words of small numbers. -/
theorem minsi_ofNat (a b : ℕ) (ha : a < 2 ^ 31) (hb : b < 2 ^ 31) :
    IKind.minsi.op (BitVec.ofNat 32 a) (BitVec.ofNat 32 b) = BitVec.ofNat 32 (min a b) := by
  show IntOp.minsi _ _ = _
  rw [IntOp.minsi, slt_ofNat ha hb]
  by_cases h : a < b
  · simp [h, min_eq_left h.le]
  · simp [h, min_eq_right (not_lt.mp h)]

/-- The kernel's place of a row's greatest value: the smallest place at which the row equals its maximum, other
    places counting as 100000. -/
def place (s : FVec Ideal S8x100000 .f32) : IVec S8x1 32 :=
  shapeCast S8x1 (multiReductionI .minsi [1] S8
    (select (cmpf .oeq s (broadcastTo S8x100000 (shapeCast S8x1
        (multiReduction .maximumf [1] S8 s 0xFF800000#32 reduces_S8x100000_S8 (.inl rfl) rfl) shapeCasts_S8_S8x1)
        broadcasts_S8x1_S8x100000))
      (iota .tc S8x100000 32 [1] iota_S8x100000_d1_w32) (broadcast S8x100000 100000#32))
    2147483647#32 reduces_S8x100000_S8 rfl) shapeCasts_S8_S8x1

/-- It is the first place of the row's greatest value. -/
theorem place_apply (s : FVec Ideal S8x100000 .f32) (r : Fin 8) :
    IsArgmax (fun c : Fin 100000 => s (ix2 r c)) (place s (ix2 r 0)) := by
  refine cast (congrArg (IsArgmax _) ?_) (isArgmax_of_fold (fun c : Fin 100000 => s (ix2 r c)) (by decide) (by decide) 2147483647
    (by decide) (by decide) IKind.minsi.op minsi_ofNat)
  refine Eq.symm ((column_apply _ r).trans ((multiReductionI_eq_fold .minsi _ _ _ _ (ix1 r)).trans
    (((reduces_S8x100000_S8).fold_fiber_r2_a1 (ix1 r) IKind.minsi.op _ _).trans ?_)))
  refine Finset.fold_congr fun c _ => ?_
  have hm := (rowwise_apply (multiReduction .maximumf [1] S8 s 0xFF800000#32 reduces_S8x100000_S8 (.inl rfl) rfl) r c).trans
    (max_apply s r)
  have hi := iota_single_apply .tc S8x100000 32 1 iota_S8x100000_d1_w32 (ix2 r c)
  refine Eq.trans (congrArg₂ (fun (y : EReal) (k : BitVec 32) =>
    Scalar.select (BitVec.ofBool (decide ((s (ix2 r c) : EReal) = y))) k 100000#32) hm hi) ?_
  show Scalar.select (BitVec.ofBool (decide ((s (ix2 r c) : EReal) = rowMax fun k => s (ix2 r k)))) (BitVec.ofNat 32 c.val) 100000#32
    = BitVec.ofNat 32 (if (s (ix2 r c) : EReal) = rowMax (fun k => s (ix2 r k)) then c.val else 100000)
  by_cases h : (s (ix2 r c) : EReal) = rowMax fun k => s (ix2 r k)
  · rw [if_pos h, decide_eq_true h]; rfl
  · rw [if_neg h, decide_eq_false h]; rfl

/-- The word of random bits, from the two words the generator ends with before its last key injection. -/
def word (u v : IVec S8x100000 32) : IVec S8x100000 32 :=
  xori (addi u (broadcast S8x100000 466689008#32)) (addi (xori v u) (broadcast S8x100000 5#32))

/-- An element of the random words. -/
theorem word_at (u v : IVec S8x100000 32) (j : S8x100000.Idx) :
    word u v j = (u j + 466689008#32) ^^^ ((v j ^^^ u j) + 5#32) := rfl

/-- A word's upper bits as the fraction of a number between one and two. -/
def fraction (w : IVec S8x100000 32) : FVec Ideal S8x100000 .f32 :=
  bitcastToFloat .f32 (ori (shrui w (broadcast S8x100000 9#32)) (broadcast S8x100000 1065353216#32))

/-- An element of the fractions: the uniform number before it is spread. -/
theorem fraction_at (w : IVec S8x100000 32) (j : S8x100000.Idx) :
    fraction w j = Ideal.ofBits .f32 (IntOp.shrui .vector (w j) 9#32 ||| 1065353216#32) := rfl

/-- That number less one, brought between the smallest normal number and one. -/
def spread (f : FVec Ideal S8x100000 .f32) : FVec Ideal S8x100000 .f32 :=
  maximumf (addf (mulf (subf f (broadcast S8x100000 (Scalar.ofBits .f32 0x3F800000#32)))
    (broadcast S8x100000 (Scalar.subf (Scalar.ofBits .f32 0x3F800000#32) (Scalar.ofBits .f32 0x00800000#32))))
    (broadcast S8x100000 (Scalar.ofBits .f32 0x00800000#32))) (broadcast S8x100000 (Scalar.ofBits .f32 0x00800000#32))

/-- An element of the uniform numbers. -/
theorem spread_at (f : FVec Ideal S8x100000 .f32) (j : S8x100000.Idx) :
    spread f j = max (((f j : EReal) - one) * (one - tiny) + tiny) tiny := rfl

/-- The logarithm of a probability with the noise of a uniform number added. -/
def noisy (p q : FVec Ideal S8x100000 .f32) : FVec Ideal S8x100000 .f32 :=
  addf (log (addf p (broadcast S8x100000 (Scalar.ofBits .f32 0x1E3CE508#32))))
    (subf (broadcast S8x100000 (Scalar.ofBits .f32 0x00000000#32))
      (log (subf (broadcast S8x100000 (Scalar.ofBits .f32 0x00000000#32)) (log q))))

/-- An element of the noisy scores. -/
theorem noisy_at (p q : FVec Ideal S8x100000 .f32) (j : S8x100000.Idx) :
    noisy p q j = Ideal.log ((p j : EReal) + small)
      + (Ideal.ofBits .f32 0x00000000#32 - Ideal.log (Ideal.ofBits .f32 0x00000000#32 - Ideal.log (q j))) := rfl

/-- What the kernel stores as actions, in these steps. -/
theorem actions_eq (p : FVec Ideal S8x100000 .f32) (u v : IVec S8x100000 32) :
    k0_pay48 (F := Ideal) p u v = place (noisy p (spread (fraction (word u v)))) := rfl

/-- The place the kernel stores, from the probabilities and the two words its generator ends with. -/
theorem action_apply (p : FVec Ideal S8x100000 .f32) (u v : IVec S8x100000 32) (r : Fin 8) (x : Row)
    (hx : ∀ c : Fin 100000, gumbel ((u (ix2 r c) + 466689008#32) ^^^ ((v (ix2 r c) ^^^ u (ix2 r c)) + 5#32))
      + Ideal.log ((p (ix2 r c) : EReal) + small) = x c) :
    IsArgmax x (k0_pay48 (F := Ideal) p u v (ix2 r 0)) := by
  have hs : (fun c : Fin 100000 => noisy p (spread (fraction (word u v))) (ix2 r c)) = x := funext fun c => by
    rw [← hx c, noisy_at, spread_at, fraction_at, word_at, Ideal.ofBits_zero_f32, zero_sub, zero_sub, add_comm, gumbel, uniform]
  rw [actions_eq, ← hs]
  exact place_apply _ r

end Cert.Kern

end
-- ==== Proof.Kernel.Value.lean ====
module

public import proofs.«01_k».proof.Proof.Kernel.Bits
public import proofs.«01_k».proof.Proof.Kernel.Rows
public import proofs.«01_k».proof.Proof.Gen.KernelIdeal.Value
public import Idealize.ShloMosaic.Lib.Pipeline.ValueKit.Basic

@[expose] public section

/-! # What the kernel's two result arrays hold

Grid point `t` handles rows `8 * t` to `8 * t + 7`. So row `R` of a result is row `R % 8` of block `R / 8`, and it
depends on row `R` of the first argument alone. -/

noncomputable section

namespace Cert.Kern

open Idealize.ShloMosaic Idealize.ShloMosaic.TcCoe Cert.KernelIdeal Cert.KernelIdeal.Gen

/-- Where the blocks of the input lie. -/
theorem index0 : ∀ t : Fin grid0.N, win0_0.index t 0 = t.val ∧ win0_0.index t 1 = 0 := by decide +kernel
/-- Where the blocks of the probabilities lie. -/
theorem index1 : ∀ t : Fin grid0.N, win0_1.index t 0 = t.val ∧ win0_1.index t 1 = 0 := by decide +kernel
/-- Where the blocks of the actions lie. -/
theorem index2 : ∀ t : Fin grid0.N, win0_2.index t 0 = t.val ∧ win0_2.index t 1 = 0 := by decide +kernel

/-- The grid coordinate of a point is its number. -/
theorem coord : ∀ t : Fin grid0.N, (grid0.coords t 0).val = t.val := by decide +kernel

/-- Row `r` of block `t`, as a row of the array. -/
def row (t : Fin 16) (r : Fin 8) : Fin 128 := ⟨8 * t.val + r.val, by omega⟩

variable (m : (ℓ : Loc nD τ sig) → Buf (Elt Ideal) ℓ) (c : Dev nD)

/-- The numbers of row `R`: the first argument's. -/
def nums (R : Fin 128) : Row := fun k => (m ((c.tc : Thread nD τ).loc main_arg0) : S128x100000.Idx → EReal) (ix2 R k)

/-- An element of the input block. -/
theorem input_apply (t : Fin 16) (r : Fin 8) (k : Fin 100000) :
    (iblk m c 0 t : S8x100000.Idx → EReal) (ix2 r k) = nums m c (row t r) k := by
  refine congrArg (m ((c.tc : Thread nD τ).loc main_arg0) : S128x100000.Idx → EReal) (funext fun a => Fin.ext ?_)
  match a with
  | ⟨0, _⟩ =>
    show win0_0.index t (0 : Fin 2) * 8 + 1 * r.val = 8 * t.val + r.val
    rw [(index0 t).1]; omega
  | ⟨1, _⟩ =>
    show win0_0.index t (1 : Fin 2) * 100000 + 1 * k.val = k.val
    rw [(index0 t).2]; omega

/-- An element of a block of the probabilities' array. -/
theorem probs_read (A : S128x100000.Idx → EReal) (t : Fin 16) (r : Fin 8) (k : Fin 100000) :
    ((cfg0.win 1).blk t).view.read (Elt Ideal) A (ix2 r k : S8x100000.Idx) = A (ix2 (row t r) k) := by
  refine congrArg A (funext fun a => Fin.ext ?_)
  match a with
  | ⟨0, _⟩ =>
    show win0_1.index t (0 : Fin 2) * 8 + 1 * r.val = 8 * t.val + r.val
    rw [(index1 t).1]; omega
  | ⟨1, _⟩ =>
    show win0_1.index t (1 : Fin 2) * 100000 + 1 * k.val = k.val
    rw [(index1 t).2]; omega

/-- An element of a block of the actions' array. -/
theorem actions_read (A : S128x1.Idx → BitVec 32) (t : Fin 16) (r : Fin 8) :
    ((cfg0.win 2).blk t).view.read (Elt Ideal) A (ix2 r 0 : S8x1.Idx) = A (ix2 (row t r) 0) := by
  refine congrArg A (funext fun a => Fin.ext ?_)
  match a with
  | ⟨0, _⟩ =>
    show win0_2.index t (0 : Fin 2) * 8 + 1 * r.val = 8 * t.val + r.val
    rw [(index2 t).1]; omega
  | ⟨1, _⟩ =>
    show win0_2.index t (1 : Fin 2) * 1 + 1 * 0 = 0
    rw [(index2 t).2]

/-- Every row of the array lies in a block. -/
theorem exists_row (R : Fin 128) : ∃ t r, row t r = R :=
  ⟨⟨R.val / 8, by omega⟩, ⟨R.val % 8, by omega⟩, Fin.ext (Nat.div_add_mod _ _)⟩

/-- The probabilities' block, from the input's block. -/
theorem probs_block (i : grid0.Coords) (x : Vec Ideal S8x100000 .f32) (r : Fin 8) (k : Fin 100000) :
    out0_1 (F := Ideal) i x (ix2 r k) = prob (fun k => x (ix2 r k)) k := by
  rw [out0_1, View.canon_cons_unit_lit _ _ _ (by decide), View.ld_unit_lit _ _ (by decide), prob_apply]

/-- The actions' block, from the input's block. -/
theorem actions_block (i : grid0.Coords) (x : Vec Ideal S8x100000 .f32) (r : Fin 8) :
    IsArgmax (score (8 * (i 0).val + r.val) fun k => x (ix2 r k)) (out0_2 (F := Ideal) i x (ix2 r 0)) := by
  rw [out0_2, View.canon_cons_unit_lit _ _ _ (by decide), View.ld_unit_lit _ _ (by decide)]
  refine action_apply _ _ _ r _ fun k => ?_
  rw [word_apply, prob_apply]
  rfl

/-- The probabilities the kernel leaves: each row's softmax. -/
theorem probs (R : Fin 128) (k : Fin 100000) :
    ((dats m 0 c).arrAt 1 cfg0.N : S128x100000.Idx → EReal) (ix2 R k) = prob (nums m c R) k := by
  obtain ⟨t, r, rfl⟩ := exists_row R
  refine (probs_read ((dats m 0 c).arrAt 1 cfg0.N) t r k).symm.trans ?_
  refine (congrFun ((Value.blocks1 m c t (Gen.flush0_1 t)).trans (Value.flushed1 m c t)) (ix2 r k : S8x100000.Idx)).trans ?_
  refine (probs_block (grid0.coords t) (iblk m c 0 t) r k).trans ?_
  exact congrArg (prob · k) (funext fun k => input_apply m c t r k)

/-- The actions the kernel leaves: the first place of each row's greatest score. -/
theorem actions (R : Fin 128) :
    IsArgmax (score R.val (nums m c R)) (((dats m 0 c).arrAt 2 cfg0.N : S128x1.Idx → BitVec 32) (ix2 R 0)) := by
  obtain ⟨t, r, rfl⟩ := exists_row R
  have e := (actions_read ((dats m 0 c).arrAt 2 cfg0.N) t r).symm.trans
    (congrFun ((Value.blocks2 m c t (Gen.flush0_2 t)).trans (Value.flushed2 m c t)) (ix2 r 0 : S8x1.Idx))
  have h := actions_block (grid0.coords t) (iblk m c 0 t) r
  have hr : 8 * (grid0.coords t 0).val + r.val = (row t r).val := congrArg (8 * · + r.val) (coord t)
  have hq : (fun k => (iblk m c 0 t : S8x100000.Idx → EReal) (ix2 r k)) = nums m c (row t r) :=
    funext fun k => input_apply m c t r k
  refine cast ?_ h
  exact congr (congrArg₂ (fun n q => IsArgmax (score n q)) hr hq) e.symm

end Cert.Kern

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Mask
public import proofs.«01_k».proof.Proof.Ref.Run
public import proofs.«01_k».proof.Proof.Ref.Value
public import proofs.«01_k».proof.Proof.Kernel.Value
public import Idealize.ShloMosaic.Adequacy
public import Idealize.ShloMosaic.Init

@[expose] public section

/-! # The certificate

The kernel's frames come from its launch, the reference's from its run. The equation: both programs leave
row by row the same softmax, and both leave the first place of the greatest score, which is one number. -/

noncomputable section

namespace Cert.Proof

open Idealize.ShloMosaic Idealize.ShloMosaic.StableHlo Idealize.SL.Sem

/-- The reference runs, keeps its arguments and leaves no semaphore raised. -/
theorem reference_frame (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal)))
      ⟨m, fun _ => 0, g⟩ fun r => (∀ c : Dev ReferenceIdeal.nD,
        r.2.mem ((c.tc : Thread ReferenceIdeal.nD ReferenceIdeal.τ).loc ReferenceIdeal.main_arg0)
            = m ((c.tc : Thread ReferenceIdeal.nD ReferenceIdeal.τ).loc ReferenceIdeal.main_arg0)
          ∧ r.2.mem ((c.tc : Thread ReferenceIdeal.nD ReferenceIdeal.τ).loc ReferenceIdeal.main_arg1)
            = m ((c.tc : Thread ReferenceIdeal.nD ReferenceIdeal.τ).loc ReferenceIdeal.main_arg1))
        ∧ r.2.sem = fun _ => 0 := by
  obtain ⟨W, hW, hrun⟩ := Ref.run m g
  exact θ_run_mono hrun fun r h =>
    ⟨fun c => ⟨(h.1 c _).trans (hW c).2.1, (h.1 c _).trans (hW c).2.2⟩, h.2⟩

/-- Contents that solve the reference's equations, its first argument the kernel's and its mask ones, hold the
    probabilities and the actions the kernel leaves. -/
theorem equal (m : (ℓ : Loc KernelIdeal.nD KernelIdeal.τ KernelIdeal.sig) → Buf (Elt Ideal) ℓ) (c : Dev KernelIdeal.nD)
    (W : Valuation ReferenceIdeal.τ ReferenceIdeal.sig (Elt Ideal))
    (h : Ref.Solves W (ReferenceIdeal.main (F := Ideal) c))
    (h0 : W (Proc.devRef .tc ReferenceIdeal.main_arg0)
      = m ((c.tc : Thread KernelIdeal.nD KernelIdeal.τ).loc KernelIdeal.main_arg0))
    (hm : ∀ i : ReferenceIdeal.S128x100000.Idx,
      (W (Proc.devRef .tc ReferenceIdeal.main_arg1) : ReferenceIdeal.S128x100000.Idx → EReal) i = one) :
    W (Proc.devRef .tc ReferenceIdeal.main_v32) = (KernelIdeal.Gen.dats m 0 c).arrAt 2 KernelIdeal.cfg0.N
      ∧ W (Proc.devRef .tc ReferenceIdeal.main_v18) = (KernelIdeal.Gen.dats m 0 c).arrAt 1 KernelIdeal.cfg0.N := by
  have hv := Ref.value W c h hm
  have hq (R : Fin 128) : (fun k => (W (Proc.devRef .tc ReferenceIdeal.main_arg0)
      : ReferenceIdeal.S128x100000.Idx → EReal) (ix2 R k)) = Kern.nums m c R :=
    funext fun k => congrFun h0 (ix2 R k : ReferenceIdeal.S128x100000.Idx)
  constructor
  · refine funext fun (i : ReferenceIdeal.S128x1.Idx) => ?_
    have hi : i = ix2 (i 0) (0 : Fin 1) := (eq_ix2 i).trans (congrArg (ix2 (i 0)) (Subsingleton.elim _ _))
    rw [hi]
    refine IsArgmax.unique ?_ (Kern.actions m c (i 0))
    exact cast (congrArg (fun q => IsArgmax (score (i 0).val q) _) (hq (i 0))) (hv (i 0)).2
  · refine funext fun (i : ReferenceIdeal.S128x100000.Idx) => ?_
    rw [eq_ix2 i]
    refine ((hv (i 0)).1 (i 1)).trans ?_
    exact (congrArg (prob · (i 1)) (hq (i 0))).trans (Kern.probs m c (i 0) (i 1)).symm

/-- The two programs' results are equal, where every action is allowed. -/
theorem algebraic [Pre_all_allowed.Facts] : algebraic_KernelIdeal_ReferenceIdeal_pre_all_allowed
    (hKernelIdeal := KernelIdeal.Gen.facts) (hReferenceIdeal := ReferenceIdeal.Gen.facts) := by
  intro m g m' g' hpre hargs
  obtain ⟨W, hW, hrun⟩ := Ref.run m' g'
  have he (c : Dev KernelIdeal.nD) := equal m c (W c) (hW c).1 ((hW c).2.1.trans (hargs c).1) fun i =>
    (congrFun ((hW c).2.2.trans (hargs c).2) i).trans (Mask.ones _ _ (hpre c) i)
  refine ⟨fun c => (KernelIdeal.Gen.dats m 0 c).arrAt 2 KernelIdeal.cfg0.N,
    fun c => (KernelIdeal.Gen.dats m 0 c).arrAt 1 KernelIdeal.cfg0.N, ?_, ?_⟩
  · exact θ_run_mono (KernelIdeal.Value.run_blocks m g) fun r h c => ⟨(h c).2.1, (h c).1, (h c).2.2⟩
  · exact θ_run_mono hrun fun r h c => ⟨(h.1 c _).trans (he c).1, (h.1 c _).trans (he c).2,
      (h.1 c _).trans (hW c).2.1, (h.1 c _).trans (hW c).2.2⟩

/-- Every claim of the certificate. -/
theorem claim : Cert.Claim :=
  ⟨Kernel.Gen.facts, KernelIdeal.Gen.facts, ReferenceIdeal.Gen.facts, Mask.facts,
    fun m g _ => Kernel.Gen.frame m g, fun m g _ => KernelIdeal.Gen.frame m g, fun m g _ => KernelIdeal.Gen.frame m g,
    fun m g _ => reference_frame m g, fun m g _ => reference_frame m g, trivial, @algebraic Mask.facts⟩

end Cert.Proof

end
